-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 2048]⟩ ⟨2, ![4096, 2048]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S1x2048 : Shape := ⟨2, ![1, 2048]⟩
abbrev S2048x2048 : Shape := ⟨2, ![2048, 2048]⟩
abbrev S1024x2048 : Shape := ⟨2, ![1024, 2048]⟩
abbrev S2 : Shape := ⟨1, ![2]⟩
abbrev S8 : Shape := ⟨1, ![8]⟩
abbrev S_ : Shape := ⟨0, ![]⟩
abbrev S1 : Shape := ⟨1, ![1]⟩
abbrev S1x1024x2048 : Shape := ⟨3, ![1, 1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S1x2048, .f32⟩
  | .local _ .vmem, ⟨1, _⟩ => ⟨S2048x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 3 → Nat :=
  let c0_i32_15 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c2048_i32 : BitVec 32 := 2048#32
  let v18 : BitVec 32 := Scalar.muli v17 c2048_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v19 : BitVec 32 := Scalar.muli v5 c1024_i32
  let v20 : BitVec 32 := Scalar.addi v18 v19
  let c0_i32_17 : BitVec 32 := 0#32
  ![0, v20.toNat, 0]
def k0_off2 (d0 : Dev nD) : Fin 3 → Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_13 : BitVec 32 := 2048#32
  let v21 : BitVec 32 := Scalar.muli v2 c2048_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_14 : BitVec 32 := 1024#32
  let v22 : BitVec 32 := Scalar.muli v5 c1024_i32_14
  let v23 : BitVec 32 := Scalar.addi v21 v22
  let c0_i32_20 : BitVec 32 := 0#32
  ![0, v23.toNat, 0]
def k0_dev3 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v41 : BitVec 32 := Scalar.muli v6 c2_i32_29
  let v42 : BitVec 32 := Scalar.addi c0_i32_30 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v43 : BitVec 32 := Scalar.muli v5 c1_i32_31
  let v44 : BitVec 32 := Scalar.addi v42 v43
  v44.toNat
def k0_dev4 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v56 : BitVec 32 := Scalar.muli v6 c2_i32_41
  let v57 : BitVec 32 := Scalar.addi c0_i32_42 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v58 : BitVec 32 := Scalar.muli v5 c1_i32_43
  let v59 : BitVec 32 := Scalar.addi v57 v58
  v59.toNat
def k0_dev5 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v71 : BitVec 32 := Scalar.muli v6 c2_i32_52
  let v72 : BitVec 32 := Scalar.addi c0_i32_53 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v73 : BitVec 32 := Scalar.muli v5 c1_i32_54
  let v74 : BitVec 32 := Scalar.addi v72 v73
  v74.toNat
def k0_dev6 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v86 : BitVec 32 := Scalar.muli v6 c2_i32_62
  let v87 : BitVec 32 := Scalar.addi c0_i32_63 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v88 : BitVec 32 := Scalar.muli v5 c1_i32_64
  let v89 : BitVec 32 := Scalar.addi v87 v88
  v89.toNat
def k0_dev7 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v101 : BitVec 32 := Scalar.muli v6 c2_i32_72
  let v102 : BitVec 32 := Scalar.addi c0_i32_73 v101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v103 : BitVec 32 := Scalar.muli v5 c1_i32_74
  let v104 : BitVec 32 := Scalar.addi v102 v103
  v104.toNat
def k0_dev8 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v116 : BitVec 32 := Scalar.muli v6 c2_i32_82
  let v117 : BitVec 32 := Scalar.addi c0_i32_83 v116
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v118 : BitVec 32 := Scalar.muli v5 c1_i32_84
  let v119 : BitVec 32 := Scalar.addi v117 v118
  v119.toNat
def k0_dev9 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v131 : BitVec 32 := Scalar.muli v6 c2_i32_92
  let v132 : BitVec 32 := Scalar.addi c0_i32_93 v131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v133 : BitVec 32 := Scalar.muli v5 c1_i32_94
  let v134 : BitVec 32 := Scalar.addi v132 v133
  v134.toNat
def k0_dev10 (d0 : Dev nD) : Nat :=
  let c0_i32_103 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_102 : BitVec 32 := 2#32
  let v146 : BitVec 32 := Scalar.muli v6 c2_i32_102
  let v147 : BitVec 32 := Scalar.addi c0_i32_103 v146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_104 : BitVec 32 := 1#32
  let v148 : BitVec 32 := Scalar.muli v5 c1_i32_104
  let v149 : BitVec 32 := Scalar.addi v147 v148
  v149.toNat
def k0_off3 (d0 : Dev nD) (c0_i32_129 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_128 : BitVec 32 := 1024#32
  let v186 : BitVec 32 := Scalar.muli v5 c1024_i32_128
  let v187 : BitVec 32 := Scalar.addi v186 c0_i32_129
  let v188 : Index := Scalar.indexCast v187
  let c0_130 : Index := 0#32
  ![v188.toNat, 0]
def k0_dev11 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v194 : BitVec 32 := Scalar.muli v2 c2_i32_135
  let v195 : BitVec 32 := Scalar.addi c0_i32_136 v194
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_137 : BitVec 32 := 1#32
  let v196 : BitVec 32 := Scalar.muli v7 c1_i32_137
  let v197 : BitVec 32 := Scalar.addi v195 v196
  v197.toNat
def k0_dev12 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v238 : BitVec 32 := Scalar.muli v2 c2_i32_167
  let v239 : BitVec 32 := Scalar.addi c0_i32_168 v238
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_169 : BitVec 32 := 1#32
  let v240 : BitVec 32 := Scalar.muli v7 c1_i32_169
  let v241 : BitVec 32 := Scalar.addi v239 v240
  v241.toNat
def k0_dev13 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v282 : BitVec 32 := Scalar.muli v2 c2_i32_199
  let v283 : BitVec 32 := Scalar.addi c0_i32_200 v282
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_201 : BitVec 32 := 1#32
  let v284 : BitVec 32 := Scalar.muli v7 c1_i32_201
  let v285 : BitVec 32 := Scalar.addi v283 v284
  v285.toNat
def k0_dev14 (d0 : Dev nD) : Nat :=
  let c0_i32_232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_231 : BitVec 32 := 2#32
  let v326 : BitVec 32 := Scalar.muli v2 c2_i32_231
  let v327 : BitVec 32 := Scalar.addi c0_i32_232 v326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_233 : BitVec 32 := 1#32
  let v328 : BitVec 32 := Scalar.muli v7 c1_i32_233
  let v329 : BitVec 32 := Scalar.addi v327 v328
  v329.toNat
def k0_dev15 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v370 : BitVec 32 := Scalar.muli v2 c2_i32_263
  let v371 : BitVec 32 := Scalar.addi c0_i32_264 v370
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_265 : BitVec 32 := 1#32
  let v372 : BitVec 32 := Scalar.muli v7 c1_i32_265
  let v373 : BitVec 32 := Scalar.addi v371 v372
  v373.toNat
def k0_dev16 (d0 : Dev nD) : Nat :=
  let c0_i32_296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_295 : BitVec 32 := 2#32
  let v414 : BitVec 32 := Scalar.muli v2 c2_i32_295
  let v415 : BitVec 32 := Scalar.addi c0_i32_296 v414
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_297 : BitVec 32 := 1#32
  let v416 : BitVec 32 := Scalar.muli v7 c1_i32_297
  let v417 : BitVec 32 := Scalar.addi v415 v416
  v417.toNat
def k0_dev17 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v458 : BitVec 32 := Scalar.muli v2 c2_i32_327
  let v459 : BitVec 32 := Scalar.addi c0_i32_328 v458
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_329 : BitVec 32 := 1#32
  let v460 : BitVec 32 := Scalar.muli v7 c1_i32_329
  let v461 : BitVec 32 := Scalar.addi v459 v460
  v461.toNat
def k0_dev18 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v502 : BitVec 32 := Scalar.muli v2 c2_i32_359
  let v503 : BitVec 32 := Scalar.addi c0_i32_360 v502
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_361 : BitVec 32 := 1#32
  let v504 : BitVec 32 := Scalar.muli v7 c1_i32_361
  let v505 : BitVec 32 := Scalar.addi v503 v504
  v505.toNat
def k0_off4 (d0 : Dev nD) (c0_i32_379 : BitVec 32) : Fin 2 → Nat :=
  let c1_i32_377 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v522 : BitVec 32 := Scalar.subi c1_i32_377 v5
  let c1024_i32_378 : BitVec 32 := 1024#32
  let v523 : BitVec 32 := Scalar.muli v522 c1024_i32_378
  let v524 : BitVec 32 := Scalar.addi v523 c0_i32_379
  let v525 : Index := Scalar.indexCast v524
  let c0_380 : Index := 0#32
  ![v525.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Same.lean ====
/-
  The program printed for bit patterns and the program printed for the extended reals are one program: no operation was rewritten.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The tables of the kernels' bodies are the same, for any float values … -/
theorem kernels_same : Cert.Kernel.defs₀ (F := F) = Cert.KernelIdeal.defs₀ (F := F) := by
  refine congrArg Defs.onTc (funext fun l => funext fun x => ?_)
  match l, x with
  | 0, (t, s) => rfl

/-- … and the tables with the regions. -/
theorem defs_same : Cert.Kernel.defs (F := F) = Cert.KernelIdeal.defs (F := F) :=
  congrArg (Pipeline.defs (Cert.Kernel.pcfgs (F := F))) kernels_same

end Cert.Proof

end
-- ==== Proof.Program.lean ====
/-
  The kernel body as a list of steps, one step for every chunk.

  The body's text repeats the same operations for eight chunks of 128 rows. Here each phase is written ONCE, over a chunk number
  `i : Fin 8`, and `body_eq` says that the printed body is the phases run over the eight numbers in order.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Steps

open Cert.KernelIdeal Cert.KernelIdeal.Gen
open Idealize.ShloMosaic
open Idealize.ShloMosaic.TcCoe
open Idealize.SL Idealize.SL.Sem

variable {F : FTy → Type} [FloatOps F]

/-! ## The neighbours -/

/-- The other device of the same column, and the other device of the same row. -/
def xn (c : Dev nD) : Dev nD := ⟨k0_dev1 c, k0_dev1_lt c⟩
def yn (c : Dev nD) : Dev nD := ⟨k0_dev2 c, k0_dev2_lt c⟩

/-! ## The buffers -/

/-- The device's block of the partial sums, in HBM. -/
abbrev inM : Memref sig .tc .hbm S1x4096x2048 .f32 := Memref.whole main_arg0
/-- The weights, staged. -/
abbrev gM : Memref sig .tc .vmem S1x2048 .f32 := Memref.whole cc0_stg0_0
/-- The result, staged. -/
abbrev oM : Memref sig .tc .vmem S2048x2048 .f32 := Memref.whole cc0_stg1_0
/-- The quarter to send, and the quarter to keep. -/
abbrev sndM : Memref sig .tc .vmem S1024x2048 .f32 := Memref.whole cc0_scratch0
abbrev locM : Memref sig .tc .vmem S1024x2048 .f32 := Memref.whole cc0_scratch1
/-- Send and receive buffers of the exchange along x, and of the exchange along y. -/
abbrev xsM : Memref sig .tc .vmem S1024x2048 .bf16 := Memref.whole cc0_scratch2
abbrev xrM : Memref sig .tc .vmem S1024x2048 .bf16 := Memref.whole cc0_scratch3
abbrev ysM : Memref sig .tc .vmem S1024x2048 .bf16 := Memref.whole cc0_scratch4
abbrev yrM : Memref sig .tc .vmem S1024x2048 .bf16 := Memref.whole cc0_scratch5

/-! ## Chunks -/

theorem chunk_inb (i : Fin 8) : ∀ a, (![128 * i.val, 0] : Fin 2 → Nat) a + S128x2048.size a ≤ S1024x2048.size a := by
  revert i; decide
/-- Chunk `i`: rows `128 i … 128 i + 127` of a quarter. -/
abbrev chunk (i : Fin 8) : Rect S1024x2048 := Rect.unit (s := S1024x2048) ![128 * i.val, 0] S128x2048.size (chunk_inb i)
theorem chunk_words (i : Fin 8) : (chunk i).WholeWords (EltTy.packing .bf16) := by revert i; decide
theorem chunk_packed (i : Fin 8) : (chunk i).PackedRows (EltTy.packing .bf16) := by revert i; decide

/-- Chunk `i` of the own half of the result, and of the other half. -/
abbrev ownRows (c : Dev nD) (i : Fin 8) : Rect S2048x2048 :=
  Rect.unit (s := S2048x2048) (k0_off3 c (BitVec.ofNat 32 (128 * i.val))) S128x2048.size (k0_off3_inb c i)
abbrev otherRows (c : Dev nD) (i : Fin 8) : Rect S2048x2048 :=
  Rect.unit (s := S2048x2048) (k0_off4 c (BitVec.ofNat 32 (128 * i.val))) S128x2048.size (k0_off4_inb c i)

/-- Chunk `i` of a bfloat16 buffer, as the view the copies use. -/
abbrev chunkM (b : Memref sig .tc .vmem S1024x2048 .bf16) (i : Fin 8) : Memref sig .tc .vmem S128x2048 .bf16 :=
  b.slice (chunk i) (fun _ => rfl)

/-! ## Semaphores -/

theorem sem_inb (i : Fin 8) : ∀ a, (![i.val] : Fin 1 → Nat) a + S1.size a ≤ S8.size a := by revert i; decide
/-- Semaphore `i` of an array of eight. -/
abbrev semAt (s : DmaSems sig S8) (i : Fin 8) : DmaSem sig :=
  ((s.slice (Rect.unit (s := S8) ![i.val] S1.size (sem_inb i))).squeeze S_ squeezes_S1_S_).sem
abbrev ld0 : DmaSem sig := ((cc0_scratch6.slice (Rect.unit (s := S2) ![0] S1.size inb_S2_S1_0)).squeeze S_ squeezes_S1_S_).sem
abbrev ld1 : DmaSem sig := ((cc0_scratch6.slice (Rect.unit (s := S2) ![1] S1.size inb_S2_S1_1)).squeeze S_ squeezes_S1_S_).sem
abbrev bar : Sem sig := (SemArray.scalar (sig.barrier 0 rfl) : Sems sig S_).sem

/-! ## The source rows -/

abbrev srcSend (c : Dev nD) : Memref sig .tc .hbm S1024x2048 .f32 :=
  (inM.slice (Rect.unit (s := S1x4096x2048) (k0_off1 c) S1x1024x2048.size (k0_off1_inb c)) (fun _ => rfl)).squeeze S1024x2048 squeezes_S1x1024x2048_S1024x2048
abbrev srcKeep (c : Dev nD) : Memref sig .tc .hbm S1024x2048 .f32 :=
  (inM.slice (Rect.unit (s := S1x4096x2048) (k0_off2 c) S1x1024x2048.size (k0_off2_inb c)) (fun _ => rfl)).squeeze S1024x2048 squeezes_S1x1024x2048_S1024x2048

/-! ## The values -/

/-- The rounded chunk that goes out. -/
def down (v : Vec F S128x2048 .f32) : FVec F S128x2048 .bf16 := k0_pay1 v
/-- The normalised chunk of what a device keeps, what it received, and the weights. -/
def norm (v : Vec F S128x2048 .f32) (w : Vec F S128x2048 .bf16) (g : Vec F S1x2048 .f32) : FVec F S128x2048 .f32 := k0_pay12 v w g
/-- The widened chunk that came in. -/
def up (v : Vec F S128x2048 .bf16) : FVec F S128x2048 .f32 := k0_pay28 v

/-! ## The phases -/

abbrev P : Type → Type 1 := Prog (TpuEff nD τ sig (Elt F) Λ₀ .tc)

/-- A read of chunk `i`. -/
abbrev rd {e : EltTy} (b : Memref sig .tc .vmem S1024x2048 e) (i : Fin 8) {β : Type} (k : (S128x2048.Idx → Elt F e) → P (F := F) β) : P (F := F) β :=
  .op (.load b (chunk i).toLoadRect (View.loadsAt_vmem h_S128x2048)) k

/-- A remote copy of chunk `i` of `s` into chunk `i` of `d` on device `t`. -/
abbrev put (t : Dev nD) (s d : Memref sig .tc .vmem S1024x2048 .bf16) (hs : s.IsWhole) (hd : d.IsWhole) (ss ds : DmaSem sig) (i : Fin 8)
    (k : P (F := F) PUnit) : P (F := F) PUnit :=
  .op (.enqueueDma (chunkM s i) (.remote (Dev.tc t) (chunkM d i) (.dma ss)) (.dma ds) (hs.wordExact_slice rfl _ (chunk_words i))
    (hd.wordExact_slice rfl _ (chunk_words i)) ⟨⟨rfl, Or.inl rfl⟩, trivial⟩) fun _ => k

/-- The wait for a chunk's copy. -/
abbrev await (sm : DmaSem sig) (s d : Memref sig .tc .vmem S1024x2048 .bf16) (hs : s.IsWhole) (hd : d.IsWhole) (i : Fin 8)
    (k : P (F := F) PUnit) : P (F := F) PUnit :=
  .op (.waitDma2 sm (chunkM s i) (chunkM d i) (hs.wordExact_slice rfl _ (chunk_words i)) (hd.wordExact_slice rfl _ (chunk_words i))) fun _ => k

abbrev wh {b : Ref sig .tc} : (Memref.whole b).IsWhole := Memref.isWhole_whole _

/-- Round chunk `i` of the quarter to send and send it along x. -/
def sendStep (c : Dev nD) (i : Fin 8) (k : P (F := F) PUnit) : P (F := F) PUnit :=
  rd sndM i fun v => rd xsM i fun _ =>
  .op (.store xsM (chunk i) (down v) Finset.univ
    (View.stores_vmem h_S128x2048 (wh.storeExact_slice rfl _ (chunk_packed i)) (fun _ => rfl)) (.inl rfl)) fun _ =>
  put (xn c) xsM xrM wh wh (semAt cc0_scratch7 i) (semAt cc0_scratch8 i) i k

/-- Wait for chunk `i` along x, normalise it, write it to the own half of the result and send it along y. -/
def normStep (c : Dev nD) (i : Fin 8) (k : P (F := F) PUnit) : P (F := F) PUnit :=
  await (semAt cc0_scratch8 i) xsM xrM wh wh i <|
  rd locM i fun v => rd xrM i fun w =>
  .op (.load gM (Rect.unit (s := S1x2048) ![0, 0] S1x2048.size inb_S1x2048_S1x2048_0_0).toLoadRect (View.loadsAt_vmem h_S1x2048)) fun g =>
  .op (.load oM (ownRows c i).toLoadRect (View.loadsAt_vmem h_S128x2048)) fun _ =>
  .op (.store oM (ownRows c i) (norm v w g) Finset.univ (View.stores_vmem_bits_univ h_S128x2048 rfl) (.inl rfl)) fun _ =>
  rd ysM i fun _ =>
  .op (.store ysM (chunk i) (down (norm v w g)) Finset.univ
    (View.stores_vmem h_S128x2048 (wh.storeExact_slice rfl _ (chunk_packed i)) (fun _ => rfl)) (.inl rfl)) fun _ =>
  put (yn c) ysM yrM wh wh (semAt cc0_scratch9 i) (semAt cc0_scratch10 i) i k

/-- Wait for chunk `i` along y and write it to the other half of the result. -/
def recvStep (c : Dev nD) (i : Fin 8) (k : P (F := F) PUnit) : P (F := F) PUnit :=
  await (semAt cc0_scratch10 i) ysM yrM wh wh i <|
  rd yrM i fun w =>
  .op (.load oM (otherRows c i).toLoadRect (View.loadsAt_vmem h_S128x2048)) fun _ =>
  .op (.store oM (otherRows c i) (up w) Finset.univ (View.stores_vmem_bits_univ h_S128x2048 rfl) (.inl rfl)) fun _ => k

/-- Wait until the copies of chunk `i` have left. -/
def doneStep (i : Fin 8) (k : P (F := F) PUnit) : P (F := F) PUnit :=
  await (semAt cc0_scratch7 i) xrM xsM wh wh i <| await (semAt cc0_scratch9 i) yrM ysM wh wh i k

/-- A phase over a list of chunks. -/
def over (f : Fin 8 → P (F := F) PUnit → P (F := F) PUnit) (l : List (Fin 8)) (k : P (F := F) PUnit) : P (F := F) PUnit := l.foldr f k

/-- The eight chunk numbers, in order. -/
abbrev all8 : List (Fin 8) := [0, 1, 2, 3, 4, 5, 6, 7]

/-- The body. -/
def kbody : P (F := F) PUnit :=
  .op .deviceId fun c =>
  .op (.semSignal (Dev.tc (xn c)) bar 1) fun _ =>
  .op (.semSignal (Dev.tc (yn c)) bar 1) fun _ =>
  .op (.semWait bar 2) fun _ =>
  .op (.enqueueDma (srcSend c) (.here sndM) (.dma ld0) ((View.wordExact_bits rfl).reshape _ _) wh.wordExact ⟨Or.inl rfl, trivial⟩) fun _ =>
  .op (.enqueueDma (srcKeep c) (.here locM) (.dma ld1) ((View.wordExact_bits rfl).reshape _ _) wh.wordExact ⟨Or.inl rfl, trivial⟩) fun _ =>
  .op (.waitDma2 ld0 (srcSend c) sndM ((View.wordExact_bits rfl).reshape _ _) wh.wordExact) fun _ =>
  over (sendStep c) all8 <|
  .op (.waitDma2 ld1 (srcKeep c) locM ((View.wordExact_bits rfl).reshape _ _) wh.wordExact) fun _ =>
  over (normStep c) all8 <| over (recvStep c) all8 <| over doneStep all8 <| .ret ⟨⟩

set_option maxRecDepth 65536 in
set_option maxHeartbeats 4000000 in
/-- The printed body is the phases over the eight chunks. -/
theorem body_eq : bodyAt0 (F := F) t0_0 = kbody (F := F) := rfl

end Cert.KernelIdeal.Steps

end
-- ==== Proof.Protocol.lean ====
/-
  The protocol of the kernel: who signals whom, what travels with each signal and each copy, and in which order a device may wait.

  Device `c` sits at (x, y) = (c / 2, c % 2). It exchanges a quarter of its block with the device `xn c` of the other x and same y,
  and its finished half with the device `yn c` of the same x and other y. Every semaphore is used for one round only.
-/
module

public import proofs.«01_k».proof.Proof.Program
public import Idealize.ShloMosaic.Lib.Pipeline.RegionTalk
public import Idealize.ShloMosaic.Lib.Rounds
public import Idealize.ShloMosaic.Lib.Memref
public import Idealize.ShloMosaic.Lib.Tactic

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours -/

theorem xn_xn (c : Dev nD) : xn (xn c) = c := by revert c; decide
theorem yn_yn (c : Dev nD) : yn (yn c) = c := by revert c; decide
theorem xn_ne_yn (c : Dev nD) : xn c ≠ yn c := by revert c; decide
def xEquiv : Dev nD ≃ Dev nD := ⟨xn, xn, xn_xn, xn_xn⟩
def yEquiv : Dev nD ≃ Dev nD := ⟨yn, yn, yn_yn, yn_yn⟩

/-! ## The resources -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The semaphores -/

/-- The four arrays of eight semaphores: copies along x leaving and arriving, copies along y leaving and arriving. -/
inductive Lane | xs | xr | ys | yr
  deriving DecidableEq

instance : Fintype Lane := ⟨{.xs, .xr, .ys, .yr}, by intro a; cases a <;> decide⟩

/-- The array of a lane. -/
abbrev laneSem : Lane → DmaSems sig S8
  | .xs => cc0_scratch7
  | .xr => cc0_scratch8
  | .ys => cc0_scratch9
  | .yr => cc0_scratch10

/-- A name for each DMA semaphore of the kernel: the two local copies, and the chunks of the four lanes. -/
abbrev Own : Type := Bool ⊕ Lane × Fin 8

abbrev dsem : Own → DmaSem sig
  | .inl false => ld0
  | .inl true => ld1
  | .inr (a, i) => semAt (laneSem a) i
abbrev osem (k : Own) : SemLoc sig := .dma (dsem k)

/-- The name of a DMA semaphore. -/
def nameOf (s : DmaSem sig) : Own :=
  if s.val < 4 then .inl (s.val == 3)
  else .inr (if s.val < 12 then .xs else if s.val < 20 then .xr else if s.val < 28 then .ys else .yr, ⟨(s.val - 4) % 8, Nat.mod_lt _ (by decide)⟩)

theorem nameOf_dsem (k : Own) : nameOf (dsem k) = k := by
  rcases k with b | ⟨a, i⟩
  · cases b <;> decide
  · cases a <;> (revert i; decide)
theorem dsem_inj : Function.Injective dsem := Function.LeftInverse.injective nameOf_dsem
theorem osem_inj : Function.Injective osem := fun _ _ h => dsem_inj (SemLoc.dma.inj h)

abbrev barCell (c : Dev nD) : GSem nD τ sig := ((c : Thread nD τ), .reg bar)
abbrev cell (c : Dev nD) (k : Own) : GSem nD τ sig := ((c : Thread nD τ), osem k)
abbrev xsC (c : Dev nD) (i : Fin 8) : GSem nD τ sig := cell c (.inr (.xs, i))
abbrev xrC (c : Dev nD) (i : Fin 8) : GSem nD τ sig := cell c (.inr (.xr, i))
abbrev ysC (c : Dev nD) (i : Fin 8) : GSem nD τ sig := cell c (.inr (.ys, i))
abbrev yrC (c : Dev nD) (i : Fin 8) : GSem nD τ sig := cell c (.inr (.yr, i))

/-- What one chunk's copy credits, and what a local copy of a quarter credits. -/
@[irreducible] def N : ℕ := (chunkM xrM 0).view.dmaCredit
@[irreducible] def NL : ℕ := sndM.view.dmaCredit
theorem N_pos : 0 < N := by unfold N; exact View.dmaCredit_pos _ (by decide)
theorem NL_pos : 0 < NL := by unfold NL; exact View.dmaCredit_pos _ (by decide)

/-! ## The values -/

variable (X : Dev nD → (main_arg0 : Ref sig .tc).ty.Contents (Elt F)) (G : Dev nD → S1x2048.Idx → Elt F .f32)

/-- The quarter that device `c` sends, and the quarter that it keeps. -/
def sendQ (c : Dev nD) : S1024x2048.Idx → Elt F .f32 := (srcSend c).view.read (Elt F) (X c)
def keepQ (c : Dev nD) : S1024x2048.Idx → Elt F .f32 := (srcKeep c).view.read (Elt F) (X c)
/-- Chunk `i` of a quarter. -/
def cut {α : Type} (v : S1024x2048.Idx → α) (i : Fin 8) : S128x2048.Idx → α := fun j => v ((chunk i).emb j)
/-- Chunk `i` as it leaves `c` along x. -/
def outX (c : Dev nD) (i : Fin 8) : S128x2048.Idx → Elt F .bf16 := down (cut (sendQ X c) i)
/-- Chunk `i` of the half of the result that `c` computes. -/
def normed (c : Dev nD) (i : Fin 8) : S128x2048.Idx → Elt F .f32 := norm (cut (keepQ X c) i) (outX X (xn c) i) (G c)
/-- Chunk `i` as it leaves `c` along y. -/
def outY (c : Dev nD) (i : Fin 8) : S128x2048.Idx → Elt F .bf16 := down (normed X G c i)

/-! ## The schedule -/

/-- A chunk of a bfloat16 buffer of device `c`, holding `v`; or holding anything. -/
abbrev has (c : Dev nD) (b : Memref sig .tc .vmem S1024x2048 .bf16) (i : Fin 8) (v : S128x2048.Idx → Elt F .bf16) : sProp 𝕄 :=
  owns (c : Thread nD τ) (chunkM b i) fullShare v
abbrev free (c : Dev nD) (b : Memref sig .tc .vmem S1024x2048 .bf16) (i : Fin 8) : sProp 𝕄 := iprop(∃ v, has c b i v)

/-- The source rows of the two local copies, each at half of the array's share. -/
abbrev srcPt (c : Dev nD) : Bool → sProp 𝕄
  | false => (srcSend c).view.loc (c : Thread nD τ) ↦[(srcSend c).view.set]{fullShare.left} X c
  | true => (srcKeep c).view.loc (c : Thread nD τ) ↦[(srcKeep c).view.set]{fullShare.right} X c

/-- What arrives with each barrier signal on `c`: the sender's landing buffer, chunk by chunk, and that its receive semaphores are in use. -/
def barPay (c : Dev nD) : Bool → sProp 𝕄
  | false => bigSep Finset.univ fun i => iprop(free (xn c) xrM i ∗ reached ER (xrC (xn c) i) 0)
  | true => bigSep Finset.univ fun i => iprop(free (yn c) yrM i ∗ reached ER (yrC (yn c) i) 0)

/-- What arrives with each copy. -/
def pay (c : Dev nD) : Own → sProp 𝕄
  | .inl false => iprop(owns (c : Thread nD τ) sndM fullShare (sendQ X c) ∗ srcPt X c false)
  | .inl true => iprop(owns (c : Thread nD τ) locM fullShare (keepQ X c) ∗ srcPt X c true)
  | .inr (.xs, i) => free c xsM i
  | .inr (.xr, i) => has c xrM i (outX X (xn c) i)
  | .inr (.ys, i) => free c ysM i
  | .inr (.yr, i) => has c yrM i (outY X G (yn c) i)

/-- What a cell's copy credits. -/
def amt : Own → ℕ
  | .inl _ => NL
  | .inr _ => N

theorem amt_pos (k : Own) : 0 < amt k := by
  cases k with
  | inl b => exact NL_pos
  | inr a => exact N_pos

/-- One round: two signals on each barrier semaphore, one copy on each other semaphore. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma s => amt (nameOf s)
  payload g _ d := match g.2 with | .reg _ => barPay g.1.1 d | .dma s => pay X G g.1.1 (nameOf s)
  amount_pos g _ _ _ := by
    split
    · exact Nat.one_pos
    · exact amt_pos _

instance Rd_storable (g : GSem nD τ sig) (r : ℕ) (d : Bool) : BI.Storable (upEmb : UEmb _ 𝕄) ((Rd X G).payload g r d) := by
  show BI.Storable upEmb (match g.2 with | .reg _ => barPay g.1.1 d | .dma s => pay X G g.1.1 (nameOf s))
  split
  · cases d <;> (unfold barPay; infer_instance)
  · unfold pay; split <;> infer_instance

theorem duties_bar (c : Dev nD) : (Rd X G).duties (barCell c) 0 = Finset.univ := rfl
theorem duties_cell (c : Dev nD) (k : Own) : (Rd X G).duties (cell c k) 0 = {false} := rfl
theorem duties_later (g : GSem nD τ sig) : ∀ r, 1 ≤ r → (Rd X G).duties g r = ∅ := fun r hr => if_neg (Nat.one_le_iff_ne_zero.mp hr)
theorem amount_cell (c : Dev nD) (k : Own) : (Rd X G).amount (cell c k) 0 false = amt k := by
  show amt (nameOf (dsem k)) = amt k; rw [nameOf_dsem]
theorem payload_cell (c : Dev nD) (k : Own) : (Rd X G).payload (cell c k) 0 false = pay X G c k := by
  show pay X G c (nameOf (dsem k)) = pay X G c k; rw [nameOf_dsem]
theorem expect_bar (c : Dev nD) : (Rd X G).expect (barCell c) 0 = 2 := by
  unfold Schedule.expect Schedule.amountOf; rw [duties_bar]; rfl
theorem expect_cell (c : Dev nD) (k : Own) : (Rd X G).expect (cell c k) 0 = amt k := by
  unfold Schedule.expect Schedule.amountOf; rw [duties_cell, Finset.sum_singleton, amount_cell]
theorem rest_bar (c : Dev nD) : bigSep ((Rd X G).duties (barCell c) 0 \ ∅) (fun d => (Rd X G).payload (barCell c) 0 d)
    = iprop(barPay c false ∗ barPay c true) := by
  rw [Finset.sdiff_empty, duties_bar, show (Finset.univ : Finset Bool) = {false, true} from by decide,
    bigSep_insert (by decide), bigSep_singleton]; rfl
theorem rest_cell (c : Dev nD) (k : Own) : bigSep ((Rd X G).duties (cell c k) 0 \ ∅) (fun d => (Rd X G).payload (cell c k) 0 d) = pay X G c k := by
  rw [Finset.sdiff_empty, duties_cell, bigSep_singleton, payload_cell]

/-! ## What a device owes, and the order of waits -/

/-- The copies along x of the chunks `lx` and along y of the chunks `ly`, still to be made. -/
def owed (c : Dev nD) (lx ly : List (Fin 8)) : CellTallies nD τ sig Unit :=
  (lx.map fun i => tallyAt (xrC (xn c) i) () N).sum + (ly.map fun i => tallyAt (yrC (yn c) i) () N).sum

theorem owed_x (c : Dev nD) (i : Fin 8) (lx ly : List (Fin 8)) : owed c (i :: lx) ly = owed c lx ly + tallyAt (xrC (xn c) i) () N := by
  unfold owed; rw [List.map_cons, List.sum_cons, add_assoc, add_comm]
theorem owed_y (c : Dev nD) (i : Fin 8) (lx ly : List (Fin 8)) : owed c lx (i :: ly) = owed c lx ly + tallyAt (yrC (yn c) i) () N := by
  unfold owed; rw [List.map_cons, List.sum_cons, add_left_comm, add_comm]
theorem owed_nil (c : Dev nD) : owed c [] [] = 0 := by unfold owed; simp

theorem tally_pos {g₀ g : GSem nD τ sig} {n : ℕ} {u : Unit} (h : 0 < (tallyAt g₀ () n : CellTallies nD τ sig Unit) g u) : g = g₀ := by
  rw [tallyAt_apply] at h
  split at h
  · next hg => exact hg.1
  · exact absurd h (Nat.lt_irrefl 0)

theorem sum_pos {f : Fin 8 → GSem nD τ sig} {l : List (Fin 8)} {g : GSem nD τ sig} {u : Unit}
    (h : 0 < (l.map fun i => (tallyAt (f i) () N : CellTallies nD τ sig Unit)).sum g u) : ∃ i ∈ l, g = f i := by
  induction l with
  | nil => exact absurd h (Nat.lt_irrefl 0)
  | cons i l ih =>
    rw [List.map_cons, List.sum_cons, Pi.add_apply, Finsupp.add_apply] at h
    rcases Nat.add_pos_iff_pos_or_pos.mp h with h | h
    · exact ⟨i, List.mem_cons_self, tally_pos h⟩
    · obtain ⟨k, hk, e⟩ := ih h; exact ⟨k, List.mem_cons_of_mem _ hk, e⟩

theorem owed_pos {c : Dev nD} {lx ly : List (Fin 8)} {g : GSem nD τ sig} {u : Unit} (h : 0 < owed c lx ly g u) :
    (∃ i ∈ lx, g = xrC (xn c) i) ∨ ∃ i ∈ ly, g = yrC (yn c) i := by
  unfold owed at h
  rw [Pi.add_apply, Finsupp.add_apply] at h
  rcases Nat.add_pos_iff_pos_or_pos.mp h with h | h
  · exact .inl (sum_pos h)
  · exact .inr (sum_pos h)

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- Levels: what a device waits for with itself at 0, the barrier at 1, arrivals along x at 2, arrivals along y at 3. -/
def lvk : Own → ℕ
  | .inr (.xr, _) => 2
  | .inr (.yr, _) => 3
  | _ => 0
def lv (g : GSem nD τ sig) (_ : Unit) : ℕ := match g.2 with | .reg _ => 1 | .dma s => lvk (nameOf s)
theorem lv_cell (c : Dev nD) (k : Own) (u : Unit) : lv (cell c k) u = lvk k := by
  show lvk (nameOf (dsem k)) = lvk k; rw [nameOf_dsem]

/-- A device may wait on a semaphore below every copy that it still owes. -/
theorem mayWait (c : Dev nD) (s : SemLoc sig) (lx ly : List (Fin 8)) (b : ℕ) (hs : lv ((c : Thread nD τ), s) () ≤ b)
    (hx : lx ≠ [] → b < 2) (hy : ly ≠ [] → b < 3) : (levAts L lv : sProp 𝕄) ⊢ MayWait (c : Thread nD τ) s () (owed c lx ly) :=
  MayOwe.of_cut (L := L) (lev := lv) b (fun p hp => by rw [Finset.mem_singleton.mp hp, L_tc]; exact Finset.mem_singleton_self _)
    (fun g u hg => by
      rcases owed_pos hg with ⟨i, -, rfl⟩ | ⟨i, -, rfl⟩ <;> (rw [L_tc]; exact Finset.mem_singleton_self _))
    (fun p hp => by rw [Finset.mem_singleton.mp hp]; exact hs)
    (fun g u hg => by
      rcases owed_pos hg with ⟨i, hi, rfl⟩ | ⟨i, hi, rfl⟩
      · rw [lv_cell]; exact hx (List.ne_nil_of_mem hi)
      · rw [lv_cell]; exact hy (List.ne_nil_of_mem hi))

end Cert.KernelIdeal.Steps

end
-- ==== Proof.Rules.lean ====
/-
  Rules for one operation on owned slices, and the rule for a phase over a list of chunks.
-/
module

public import proofs.«01_k».proof.Proof.Protocol
public import Idealize.ShloMosaic.Lib.Pipeline.BigSepL

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends in `Q`. -/
abbrev Runs (c : Dev nD) (p : P (F := F) PUnit) (Q : PUnit → sProp 𝕄) : sProp 𝕄 :=
  wp frame (wpE (defs₀ (F := F)) 𝒱₀ (c : Thread nD τ) none) Set.univ p Q

/-- What device `c` owes, whatever it has waited for. -/
abbrev owesE (c : Dev nD) (O : CellTallies nD τ sig Unit) : sProp 𝕄 := iprop(∃ W, owes (c : Thread nD τ) O W)

/-! ## Loads and stores -/

section Memory
variable (c : Dev nD) {cs : CoreSpace} {s : Shape} {e : EltTy} (m : Memref sig .tc cs s e) (r : Rect s)

/-- A load through a rectangle of an owned memref continues at the part that the rectangle reads. -/
theorem load_whole {q : PosShare TreeShare} {Q : PUnit → sProp 𝕄} {X : s.Idx → Elt F e} {hl : m.view.LoadsAt r.toLoadRect} {k : (r.shape.Idx → Elt F e) → P (F := F) PUnit} :
    (owns (c : Thread nD τ) m q X : sProp 𝕄)
      ⊢ iprop((owns (c : Thread nD τ) m q X -∗ Runs c (k fun j => X (r.emb j)) Q) -∗ Runs c (.op (.load m r.toLoadRect hl) k) Q) := by
  have h (f : m.view.ty.Contents (Elt F)) (hf : m.view.read (Elt F) f = X) : (m.view.loc (c : Thread nD τ) ↦[m.view.set]{q} f : sProp 𝕄)
      ⊢ iprop(((m.view.loc (c : Thread nD τ) ↦[m.view.set]{q} f) -∗ Runs c (k fun j => X (r.emb j)) Q)
        -∗ Runs c (.op (.load m r.toLoadRect hl) k) Q) := by
    subst hf
    exact wp_load_rect 𝒱₀ (c : Thread nD τ) none Set.univ (m := m) (r := r) (S := m.view.set) (f := f)
      (by show (m.view.slice r).set ⊆ m.view.set; rw [View.set_slice]; exact m.view.setOn_subset_set _)
  unfold owns
  iintro ⟨%f, %hf, H⟩ Hk
  iapply (h f hf) $$ H
  iintro H
  iapply Hk
  iexists f
  isplitr
  · ipureintro; exact hf
  · iexact H

/-- A load of an owned slice continues at its contents. -/
theorem load_part {q : PosShare TreeShare} {Q : PUnit → sProp 𝕄} (hr : ∀ a, r.stride a = 1) {X : r.shape.Idx → Elt F e} {hl : m.view.LoadsAt r.toLoadRect}
    {k : (r.shape.Idx → Elt F e) → P (F := F) PUnit} :
    (owns (c : Thread nD τ) (m.slice r hr) q X : sProp 𝕄)
      ⊢ iprop((owns (c : Thread nD τ) (m.slice r hr) q X -∗ Runs c (k X) Q) -∗ Runs c (.op (.load m r.toLoadRect hl) k) Q) := by
  have h (f : (m.slice r hr).view.ty.Contents (Elt F)) (hf : (m.slice r hr).view.read (Elt F) f = X) :
      ((m.slice r hr).view.loc (c : Thread nD τ) ↦[(m.slice r hr).view.set]{q} f : sProp 𝕄)
      ⊢ iprop((((m.slice r hr).view.loc (c : Thread nD τ) ↦[(m.slice r hr).view.set]{q} f) -∗ Runs c (k X) Q)
        -∗ Runs c (.op (.load m r.toLoadRect hl) k) Q) := by
    subst hf
    exact wp_load_rect 𝒱₀ (c : Thread nD τ) none Set.univ (m := m) (r := r) (S := (m.slice r hr).view.set) (f := f) (Finset.Subset.refl _)
  unfold owns
  iintro ⟨%f, %hf, H⟩ Hk
  iapply (h f hf) $$ H
  iintro H
  iapply Hk
  iexists f
  isplitr
  · ipureintro; exact hf
  · iexact H

/-- A store to an owned slice leaves it at what is stored. -/
theorem store_part {Q : PUnit → sProp 𝕄} (hr : ∀ a, r.stride a = 1) {w : r.shape.Idx → Elt F e} {hx : (m.access r).Stores Finset.univ}
    {hm : (Finset.univ : Finset r.shape.Idx) = Finset.univ ∨ ∀ a, r.stride a = 1} {k : PUnit → P (F := F) PUnit} :
    iprop(∃ X, owns (c : Thread nD τ) (m.slice r hr) fullShare X : sProp 𝕄)
      ⊢ iprop((owns (c : Thread nD τ) (m.slice r hr) fullShare w -∗ Runs c (k ⟨⟩) Q) -∗ Runs c (.op (.store m r w Finset.univ hx hm) k) Q) := by
  have h (f : (m.slice r hr).view.ty.Contents (Elt F)) :
      ((m.slice r hr).view.loc (c : Thread nD τ) ↦[(m.slice r hr).view.set]{fullShare} f : sProp 𝕄)
      ⊢ iprop((((m.slice r hr).view.loc (c : Thread nD τ) ↦[(m.slice r hr).view.set]{fullShare}
          ((m.slice r hr).view.write (Elt F) f w Finset.univ)) -∗ Runs c (k ⟨⟩) Q)
        -∗ Runs c (.op (.store m r w Finset.univ hx hm) k) Q) :=
    wp_store 𝒱₀ (c : Thread nD τ) none Set.univ (m := m) (r := r) (w := w) (Mk := Finset.univ) (S := (m.slice r hr).view.set) (f := f)
      (Finset.Subset.refl _)
  unfold owns
  iintro ⟨%X, ⟨%f, %hf, H⟩⟩ Hk
  iapply (h f) $$ H
  iintro H
  iapply Hk
  iexists ((m.slice r hr).view.write (Elt F) f w Finset.univ)
  isplitr
  · ipureintro; exact View.read_write_univ _ _
  · iexact H

end Memory

/-! ## Copies and waits -/

variable (X : Dev nD → (main_arg0 : Ref sig .tc).ty.Contents (Elt F)) (G : Dev nD → S1x2048.Idx → Elt F .f32)

/-- The invariants of every cell of every device, and the levels. -/
def recs (κ : GSem nD τ sig → ℕ) : sProp 𝕄 :=
  iprop((bigSep Finset.univ fun c : Dev nD => cellInv ER (Rd X G) (κ (barCell c)) (barCell c))
    ∗ (bigSep Finset.univ fun p : Dev nD × Own => cellInv ER (Rd X G) (κ (cell p.1 p.2)) (cell p.1 p.2)) ∗ levAts L lv)

instance recs_persistent (κ : GSem nD τ sig → ℕ) : BI.Persistent (recs X G κ) := by unfold recs; infer_instance

variable {X G}

theorem recs_bar {κ : GSem nD τ sig → ℕ} (c : Dev nD) : recs X G κ ⊢ cellInv ER (Rd X G) (κ (barCell c)) (barCell c) := by
  unfold recs
  iintro ⟨#H, -⟩
  iapply (show bigSep Finset.univ (fun c : Dev nD => cellInv ER (Rd X G) (κ (barCell c)) (barCell c)) ⊢ _ from bigSep_elim (Finset.mem_univ c)); iexact H

theorem recs_cell {κ : GSem nD τ sig → ℕ} (c : Dev nD) (k : Own) : recs X G κ ⊢ cellInv ER (Rd X G) (κ (cell c k)) (cell c k) := by
  unfold recs
  iintro ⟨-, #H, -⟩
  iapply (show bigSep Finset.univ (fun p : Dev nD × Own => cellInv ER (Rd X G) (κ (cell p.1 p.2)) (cell p.1 p.2)) ⊢ cellInv ER (Rd X G) (κ (cell c k)) (cell c k)
    from bigSep_elim (i := (c, k)) (Finset.mem_univ (c, k))); iexact H

theorem recs_lev {κ : GSem nD τ sig → ℕ} : recs X G κ ⊢ (levAts L lv : sProp 𝕄) := by
  unfold recs; iintro ⟨-, -, #H⟩; iexact H

/-- A remote copy of an owned chunk into an owned chunk of device `t` pays both cells and leaves the credit for its departure. -/
theorem put_rule {κ : GSem nD τ sig → ℕ} (c t : Dev nD) (s d : Memref sig .tc .vmem S1024x2048 .bf16) (hs : s.IsWhole) (hd : d.IsWhole)
    (a b : Lane) (i : Fin 8) {v : S128x2048.Idx → Elt F .bf16} {O : CellTallies nD τ sig Unit}
    (hN : (chunkM d i).view.dmaCredit = N) (hroute : τ.routes (c : Thread nD τ) (t : Thread nD τ) = true)
    (hout : has c s i v ⊢ pay X G c (.inr (a, i))) (hin : has t d i v ⊢ pay X G t (.inr (b, i)))
    {k : P (F := F) PUnit} {Q : PUnit → sProp 𝕄} :
    iprop(recs X G κ ∗ has c s i v ∗ free t d i ∗ owesE c (O + tallyAt (cell t (.inr (b, i))) () N)
        ∗ dutyTok ER (cell c (.inr (a, i))) 0 false ∗ reached ER (cell c (.inr (a, i))) 0
        ∗ dutyTok ER (cell t (.inr (b, i))) 0 false ∗ reached ER (cell t (.inr (b, i))) 0)
      ⊢ iprop(((cred (tallyAt (cell c (.inr (a, i))) () N) ∗ owesE c O) -∗ Runs c k Q)
        -∗ Runs c (put t s d hs hd (dsem (.inr (a, i))) (dsem (.inr (b, i))) i k) Q) := by
  iintro ⟨#HR, Hs, ⟨%v', Hd⟩, ⟨%W, HO⟩, Ht, #Hr, Ht', #Hr'⟩ Hk
  unfold has owns
  icases Hs with ⟨%fs, %hfs, Hs⟩
  icases Hd with ⟨%fd, %hfd, Hd⟩
  iapply (Rounds.wp_send_pointsTo 𝒱₀ ER (Rd X G) (c : Thread nD τ) none (c' := (t : Thread nD τ)) (src := chunkM s i) (dst := chunkM d i)
      (sS := osem (.inr (a, i))) (sem := osem (.inr (b, i))) (q := fullShare) (fs := fs) (fd := fd)
      (κ₁ := κ (cell c (.inr (a, i)))) (κ₂ := κ (cell t (.inr (b, i)))) (r₁ := 0) (r₂ := 0) (d₁ := false) (d₂ := false)
      (Finset.mem_singleton_self _) (Finset.mem_singleton_self _) () () N hN (amount_cell X G c _) (amount_cell X G t _) O rfl (W := W)
      (by
        rw [payload_cell]
        refine .trans ?_ hout
        subst hfs
        exact owns_intro (c : Thread nD τ) (chunkM s i) fullShare fs)
      (by
        rw [payload_cell]
        refine .trans ?_ hin
        subst hfs
        refine (owns_intro (t : Thread nD τ) (chunkM d i) fullShare _).trans (Entails.of_eq ?_)
        rw [View.read_write_univ])
      hroute) $$ [Hs Hd HO Ht Ht']
  · isplitr; · iapply (recs_cell c); iexact HR
    isplitr; · iapply (recs_cell t); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait for a copy's whole credit brings the copy's payload. -/
theorem wait_rule {κ : GSem nD τ sig → ℕ} (c : Dev nD) (n : Own) {sp sp' : Space} {s s' : Shape} {e e' : EltTy}
    {src : Memref sig .tc sp' s' e'} {dst : Memref sig .tc sp s e} {hsrc : src.view.WordExact} {hdst : dst.view.WordExact}
    (hN : dst.view.dmaCredit = amt n) {O : CellTallies nD τ sig Unit}
    (hO : (levAts L lv : sProp 𝕄) ⊢ MayWait (c : Thread nD τ) (osem n) () O) {k : P (F := F) PUnit} {Q : PUnit → sProp 𝕄} :
    iprop(recs X G κ ∗ cred (tallyAt (cell c n) () (amt n)) ∗ owesE c O ∗ atPos ER (cell c n) 0 ∅ 0)
      ⊢ iprop(((owesE c O ∗ atPos ER (cell c n) 1 ∅ 0 ∗ pay X G c n) -∗ Runs c k Q)
        -∗ Runs c (.op (.waitDma2 (dsem n) src dst hsrc hdst) fun _ => k) Q) := by
  iintro ⟨#HR, Hc, ⟨%W, HO⟩, Hat⟩ Hk
  iapply (Rounds.wp_wait_rest_token 𝒱₀ ER (Rd X G) (c : Thread nD τ) none (κ := κ (cell c n))
      (wpE_waitDma2_eq (src := src) (dst := dst) 𝒱₀ (c : Thread nD τ) none Set.univ) (Set.mem_univ _) () (O := O) (W := W) (R := 0) (m := 0) (T := ∅)
      ((Nat.zero_add _).trans (hN.trans (expect_cell X G c n).symm))) $$ [Hc HO Hat]
  · isplitr; · iapply (recs_cell c); iexact HR
    isplitl [Hc]; · rw [hN]; iexact Hc
    isplitl [HO]; · iexact HO
    isplitr; · iapply hO; iapply (recs_lev (X := X) (G := G) (κ := κ)); iexact HR
    iexact Hat
  iintro ⟨HO, Hat, -, Hpay⟩
  ihave Hp := (Entails.of_eq (rest_cell X G c n)) $$ Hpay
  iapply Hk
  isplitl [HO]; · iexists _; iexact HO
  isplitl [Hat]; · iexact Hat
  iexact Hp

/-! ## A phase over a list -/

/-- If each step turns its own part `A i` into `B i` and the shared part `S (i :: l)` into `S l`, the phase turns all the `A` into all the `B`. -/
theorem over_rule (c : Dev nD) {f : Fin 8 → P (F := F) PUnit → P (F := F) PUnit} {A B : Fin 8 → sProp 𝕄} {S : List (Fin 8) → sProp 𝕄}
    {Q : PUnit → sProp 𝕄}
    (h : ∀ i l k, iprop(A i ∗ S (i :: l)) ⊢ iprop(((B i ∗ S l) -∗ Runs c k Q) -∗ Runs c (f i k) Q)) (l : List (Fin 8)) (k : P (F := F) PUnit) :
    iprop(bigSepL l A ∗ S l) ⊢ iprop(((bigSepL l B ∗ S []) -∗ Runs c k Q) -∗ Runs c (over f l k) Q) := by
  induction l with
  | nil =>
    iintro ⟨-, HS⟩ Hk
    iapply Hk
    isplitr
    · rw [bigSepL_nil]; iempintro
    · iexact HS
  | cons i l ih =>
    rw [bigSepL_cons' i l A, bigSepL_cons' i l B, show over f (i :: l) k = f i (over f l k) from rfl]
    iintro ⟨⟨Ha, Hl⟩, HS⟩ Hk
    iapply (h i l (over f l k)) $$ [Ha HS]
    · isplitl [Ha]; · iexact Ha
      iexact HS
    iintro ⟨Hb, HS⟩
    iapply ih $$ [Hl HS]
    · isplitl [Hl]; · iexact Hl
      iexact HS
    iintro ⟨Hl, HS⟩
    iapply Hk
    isplitl [Hb Hl]
    · isplitl [Hb]; · iexact Hb
      iexact Hl
    · iexact HS

end Cert.KernelIdeal.Steps

end
-- ==== Proof.Phases.lean ====
/-
  The four phases of the body: sending along x, normalising, receiving along y, and the last waits. Each is proved for one chunk.
-/
module

public import proofs.«01_k».proof.Proof.Rules

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_arg0 : Ref sig .tc).ty.Contents (Elt F)) (G : Dev nD → S1x2048.Idx → Elt F .f32)
  (κ : GSem nD τ sig → ℕ) (c : Dev nD)

theorem credit_xs (i : Fin 8) : (chunkM xsM i).view.dmaCredit = N := by unfold N; rfl
theorem credit_xr (i : Fin 8) : (chunkM xrM i).view.dmaCredit = N := by unfold N; rfl
theorem credit_ys (i : Fin 8) : (chunkM ysM i).view.dmaCredit = N := by unfold N; rfl
theorem credit_yr (i : Fin 8) : (chunkM yrM i).view.dmaCredit = N := by unfold N; rfl

/-- The right to start a copy of chunk `i` from lane `a` of `c` into lane `b` of `t`: both cells' tokens, and both in use. -/
def toks (t : Dev nD) (a b : Lane) (i : Fin 8) : sProp 𝕄 :=
  iprop(dutyTok ER (cell c (.inr (a, i))) 0 false ∗ reached ER (cell c (.inr (a, i))) 0
    ∗ dutyTok ER (cell t (.inr (b, i))) 0 false ∗ reached ER (cell t (.inr (b, i))) 0)

/-- The right to wait for a copy. -/
abbrev due (k : Own) : sProp 𝕄 := iprop(cred (tallyAt (cell c k) () (amt k)) ∗ atPos ER (cell c k) 0 ∅ 0)
/-- A cell that has been waited on. -/
abbrev past (k : Own) : sProp 𝕄 := atPos ER (cell c k) 1 ∅ 0

/-- Chunk `i` of a half of the staged result, holding `v`. -/
abbrev own (i : Fin 8) (v : S128x2048.Idx → Elt F .f32) : sProp 𝕄 := owns (c : Thread nD τ) (oM.slice (ownRows c i) (fun _ => rfl)) fullShare v
abbrev other (i : Fin 8) (v : S128x2048.Idx → Elt F .f32) : sProp 𝕄 := owns (c : Thread nD τ) (oM.slice (otherRows c i) (fun _ => rfl)) fullShare v

theorem pay_xs (i : Fin 8) : pay X G c (.inr (.xs, i)) = free c xsM i := rfl
theorem pay_xr (i : Fin 8) : pay X G c (.inr (.xr, i)) = has c xrM i (outX X (xn c) i) := rfl
theorem pay_ys (i : Fin 8) : pay X G c (.inr (.ys, i)) = free c ysM i := rfl
theorem pay_yr (i : Fin 8) : pay X G c (.inr (.yr, i)) = has c yrM i (outY X G (yn c) i) := rfl

theorem route_x : τ.routes (c : Thread nD τ) (xn c : Thread nD τ) = true := by routes
theorem route_y : τ.routes (c : Thread nD τ) (yn c : Thread nD τ) = true := by routes

/-! ## Sending along x -/

def sendA (i : Fin 8) : sProp 𝕄 := iprop(free c xsM i ∗ free (xn c) xrM i ∗ toks c (xn c) .xs .xr i)
def sendB (i : Fin 8) : sProp 𝕄 := cred (tallyAt (xsC c i) () N)
def sendS (l : List (Fin 8)) : sProp 𝕄 :=
  iprop(recs X G κ ∗ owns (c : Thread nD τ) sndM fullShare (sendQ X c) ∗ owesE c (owed c l all8))

/-- One chunk is sent along x. -/
theorem send_step {Q : PUnit → sProp 𝕄} (i : Fin 8) (l : List (Fin 8)) (k : P (F := F) PUnit) :
    iprop(sendA c i ∗ sendS X G κ c (i :: l))
      ⊢ iprop(((sendB c i ∗ sendS X G κ c l) -∗ Runs c k Q) -∗ Runs c (sendStep c i k) Q) := by
  unfold sendA sendS sendB sendStep toks
  rw [owed_x]
  iintro ⟨⟨⟨%v0, Hxs⟩, Hxr, Ht⟩, #HR, Hsnd, HO⟩ Hk
  iapply (load_whole c sndM (chunk i)) $$ Hsnd
  iintro Hsnd
  iapply (load_part c xsM (chunk i) (fun _ => rfl)) $$ Hxs
  iintro Hxs
  iapply (store_part c xsM (chunk i) (fun _ => rfl)) $$ [Hxs]
  · iexists v0; iexact Hxs
  iintro Hxs
  iapply (put_rule (X := X) (G := G) (κ := κ) c (xn c) xsM xrM wh wh .xs .xr i (v := outX X c i) (O := owed c l all8) (credit_xr i) (route_x c)
    (by show has c xsM i _ ⊢ free c xsM i; iintro H; iexists _; iexact H)
    (by show has (xn c) xrM i _ ⊢ has (xn c) xrM i _; rw [xn_xn])) $$ [Hxs Hxr HO Ht]
  · isplitr; · iexact HR
    isplitl [Hxs]; · iexact Hxs
    isplitl [Hxr]; · iexact Hxr
    isplitl [HO]; · iexact HO
    iexact Ht
  iintro ⟨Hc, HO⟩
  iapply Hk
  isplitl [Hc]; · iexact Hc
  isplitr; · iexact HR
  isplitl [Hsnd]; · iexact Hsnd
  iexact HO

/-! ## Normalising, and sending along y -/

def normA (i : Fin 8) : sProp 𝕄 :=
  iprop(due c (.inr (.xr, i)) ∗ (∃ v, own c i v) ∗ free c ysM i ∗ free (yn c) yrM i ∗ toks c (yn c) .ys .yr i)
def normB (i : Fin 8) : sProp 𝕄 :=
  iprop(past c (.inr (.xr, i)) ∗ free c xrM i ∗ own c i (normed X G c i) ∗ cred (tallyAt (ysC c i) () N))
def normS (l : List (Fin 8)) : sProp 𝕄 :=
  iprop(recs X G κ ∗ owns (c : Thread nD τ) locM fullShare (keepQ X c) ∗ owns (c : Thread nD τ) gM fullShare (G c) ∗ owesE c (owed c [] l))

theorem gamma_emb (v : S1x2048.Idx → Elt F .f32) :
    (fun j => v ((Rect.unit (s := S1x2048) ![0, 0] S1x2048.size inb_S1x2048_S1x2048_0_0).emb j)) = v :=
  Memref.readAt_unit_zero (Elt F) (cc0_stg0_0 : Ref sig .tc) (off := ![0, 0]) (by decide) inb_S1x2048_S1x2048_0_0 v

/-- One chunk is received along x, normalised, stored, and sent along y. -/
theorem norm_step {Q : PUnit → sProp 𝕄} (i : Fin 8) (l : List (Fin 8)) (k : P (F := F) PUnit) :
    iprop(normA c i ∗ normS X G κ c (i :: l))
      ⊢ iprop(((normB X G c i ∗ normS X G κ c l) -∗ Runs c k Q) -∗ Runs c (normStep c i k) Q) := by
  unfold normA normS normB normStep toks
  iintro ⟨⟨⟨Hc, Hat⟩, ⟨%o0, Ho⟩, ⟨%v0, Hys⟩, Hyr, Ht⟩, #HR, Hloc, Hg, HO⟩ Hk
  iapply (wait_rule (X := X) (G := G) (κ := κ) c (.inr (.xr, i)) (src := chunkM xsM i) (dst := chunkM xrM i) (credit_xr i)
    (mayWait c _ [] (i :: l) 2 (lv_cell c _ ()).le (fun h => absurd rfl h) (fun _ => by decide))) $$ [Hc HO Hat]
  · isplitr; · iexact HR
    isplitl [Hc]; · iexact Hc
    isplitl [HO]; · iexact HO
    iexact Hat
  iintro ⟨HO, Hat, Hxr⟩
  ihave Hxr := (Entails.of_eq (pay_xr X G c i)) $$ Hxr
  rw [owed_y]
  iapply (load_whole c locM (chunk i)) $$ Hloc
  iintro Hloc
  iapply (load_part c xrM (chunk i) (fun _ => rfl)) $$ Hxr
  iintro Hxr
  iapply (load_whole c gM _) $$ Hg
  rw [gamma_emb]
  iintro Hg
  iapply (load_part c oM (ownRows c i) (fun _ => rfl)) $$ Ho
  iintro Ho
  iapply (store_part c oM (ownRows c i) (fun _ => rfl)) $$ [Ho]
  · iexists o0; iexact Ho
  iintro Ho
  iapply (load_part c ysM (chunk i) (fun _ => rfl)) $$ Hys
  iintro Hys
  iapply (store_part c ysM (chunk i) (fun _ => rfl)) $$ [Hys]
  · iexists v0; iexact Hys
  iintro Hys
  iapply (put_rule (X := X) (G := G) (κ := κ) c (yn c) ysM yrM wh wh .ys .yr i (v := outY X G c i) (O := owed c [] l) (credit_yr i) (route_y c)
    (by show has c ysM i _ ⊢ free c ysM i; iintro H; iexists _; iexact H)
    (by show has (yn c) yrM i _ ⊢ has (yn c) yrM i _; rw [yn_yn])) $$ [Hys Hyr HO Ht]
  · isplitr; · iexact HR
    isplitl [Hys]; · iexact Hys
    isplitl [Hyr]; · iexact Hyr
    isplitl [HO]; · iexact HO
    iexact Ht
  iintro ⟨Hc, HO⟩
  iapply Hk
  isplitl [Hat Hxr Ho Hc]
  · isplitl [Hat]; · iexact Hat
    isplitl [Hxr]; · iexists _; iexact Hxr
    isplitl [Ho]; · iexact Ho
    iexact Hc
  isplitr; · iexact HR
  isplitl [Hloc]; · iexact Hloc
  isplitl [Hg]; · iexact Hg
  iexact HO

/-! ## Receiving along y -/

def recvA (i : Fin 8) : sProp 𝕄 := iprop(due c (.inr (.yr, i)) ∗ ∃ v, other c i v)
def recvB (i : Fin 8) : sProp 𝕄 := iprop(past c (.inr (.yr, i)) ∗ free c yrM i ∗ other c i (up (outY X G (yn c) i)))
def restS (_ : List (Fin 8)) : sProp 𝕄 := iprop(recs X G κ ∗ owesE c (owed c [] []))

/-- One chunk is received along y and stored. -/
theorem recv_step {Q : PUnit → sProp 𝕄} (i : Fin 8) (l : List (Fin 8)) (k : P (F := F) PUnit) :
    iprop(recvA c i ∗ restS X G κ c (i :: l))
      ⊢ iprop(((recvB X G c i ∗ restS X G κ c l) -∗ Runs c k Q) -∗ Runs c (recvStep c i k) Q) := by
  unfold recvA restS recvB recvStep
  iintro ⟨⟨⟨Hc, Hat⟩, ⟨%o0, Ho⟩⟩, #HR, HO⟩ Hk
  iapply (wait_rule (X := X) (G := G) (κ := κ) c (.inr (.yr, i)) (src := chunkM ysM i) (dst := chunkM yrM i) (credit_yr i)
    (mayWait c _ [] [] 3 (lv_cell c _ ()).le (fun h => absurd rfl h) (fun h => absurd rfl h))) $$ [Hc HO Hat]
  · isplitr; · iexact HR
    isplitl [Hc]; · iexact Hc
    isplitl [HO]; · iexact HO
    iexact Hat
  iintro ⟨HO, Hat, Hyr⟩
  ihave Hyr := (Entails.of_eq (pay_yr X G c i)) $$ Hyr
  iapply (load_part c yrM (chunk i) (fun _ => rfl)) $$ Hyr
  iintro Hyr
  iapply (load_part c oM (otherRows c i) (fun _ => rfl)) $$ Ho
  iintro Ho
  iapply (store_part c oM (otherRows c i) (fun _ => rfl)) $$ [Ho]
  · iexists o0; iexact Ho
  iintro Ho
  iapply Hk
  isplitl [Hat Hyr Ho]
  · isplitl [Hat]; · iexact Hat
    isplitl [Hyr]; · iexists _; iexact Hyr
    iexact Ho
  isplitr; · iexact HR
  iexact HO

/-! ## The last waits -/

def doneA (i : Fin 8) : sProp 𝕄 := iprop(due c (.inr (.xs, i)) ∗ due c (.inr (.ys, i)))
def doneB (i : Fin 8) : sProp 𝕄 := iprop((past c (.inr (.xs, i)) ∗ free c xsM i) ∗ past c (.inr (.ys, i)) ∗ free c ysM i)

/-- The two copies of one chunk have left. -/
theorem done_step {Q : PUnit → sProp 𝕄} (i : Fin 8) (l : List (Fin 8)) (k : P (F := F) PUnit) :
    iprop(doneA c i ∗ restS X G κ c (i :: l))
      ⊢ iprop(((doneB c i ∗ restS X G κ c l) -∗ Runs c k Q) -∗ Runs c (doneStep i k) Q) := by
  unfold doneA restS doneB doneStep
  iintro ⟨⟨⟨Hc, Hat⟩, ⟨Hc', Hat'⟩⟩, #HR, HO⟩ Hk
  iapply (wait_rule (X := X) (G := G) (κ := κ) c (.inr (.xs, i)) (src := chunkM xrM i) (dst := chunkM xsM i) (credit_xs i)
    (mayWait c _ [] [] 0 (lv_cell c _ ()).le (fun h => absurd rfl h) (fun h => absurd rfl h))) $$ [Hc HO Hat]
  · isplitr; · iexact HR
    isplitl [Hc]; · iexact Hc
    isplitl [HO]; · iexact HO
    iexact Hat
  iintro ⟨HO, Hat, Hxs⟩
  ihave Hxs := (Entails.of_eq (pay_xs X G c i)) $$ Hxs
  iapply (wait_rule (X := X) (G := G) (κ := κ) c (.inr (.ys, i)) (src := chunkM yrM i) (dst := chunkM ysM i) (credit_ys i)
    (mayWait c _ [] [] 0 (lv_cell c _ ()).le (fun h => absurd rfl h) (fun h => absurd rfl h))) $$ [Hc' HO Hat']
  · isplitr; · iexact HR
    isplitl [Hc']; · iexact Hc'
    isplitl [HO]; · iexact HO
    iexact Hat'
  iintro ⟨HO, Hat', Hys⟩
  ihave Hys := (Entails.of_eq (pay_ys X G c i)) $$ Hys
  iapply Hk
  isplitl [Hat Hxs Hat' Hys]
  · isplitl [Hat Hxs]
    · isplitl [Hat]; · iexact Hat
      iexact Hxs
    isplitl [Hat']; · iexact Hat'
    iexact Hys
  isplitr; · iexact HR
  iexact HO

end Cert.KernelIdeal.Steps

end
-- ==== Proof.Parts.lean ====
/-
  How the buffers fall into chunks: a quarter into its eight chunks, and the staged result into the eight chunks of each half.
-/
module

public import proofs.«01_k».proof.Proof.Phases

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

/-! ## Values given rectangle by rectangle -/

/-- Values given on each rectangle of a disjoint family are the parts of one function. -/
theorem glue {s : Shape} {α : Type} [Nonempty α] {T : Type} (r : T → Rect s) (hd : ∀ t t', t ≠ t' → Disjoint (r t).set (r t').set)
    (v : (t : T) → (r t).shape.Idx → α) : ∃ X : s.Idx → α, ∀ t j, X ((r t).emb j) = v t j := by
  classical
  refine ⟨fun x => if h : ∃ t j, (r t).emb j = x then v h.choose h.choose_spec.choose else Classical.arbitrary α, fun t j => ?_⟩
  have h : ∃ t' j', (r t').emb j' = (r t).emb j := ⟨t, j, rfl⟩
  have mem (t : T) (j : (r t).shape.Idx) : (r t).emb j ∈ (r t).set := by
    rw [← Rect.map_emb_univ]; exact Finset.mem_map_of_mem _ (Finset.mem_univ j)
  have key : ∀ (t' : T) (j' : (r t').shape.Idx), (r t').emb j' = (r t).emb j → v t' j' = v t j := by
    intro t' j' e
    by_cases ht : t' = t
    · subst ht; rw [(r t').emb.injective e]
    · exact absurd (e ▸ mem t' j') (Finset.disjoint_right.mp (hd t' t ht) (mem t j))
  show (if h : ∃ t' j', (r t').emb j' = (r t).emb j then v h.choose h.choose_spec.choose else Classical.arbitrary α) = v t j
  rw [dif_pos h]
  exact key _ _ h.choose_spec.choose_spec

/-! ## A quarter -/

theorem chunk_disjoint (t t' : Fin 8) (h : t ≠ t') : Disjoint (chunk t).set (chunk t').set := by
  have h' : t.val ≠ t'.val := fun e => h (Fin.ext e)
  rw [Finset.disjoint_left]
  intro x hx hx'
  have a := Rect.mem_set_unit.mp hx 0
  have b := Rect.mem_set_unit.mp hx' 0
  have a' : 128 * t.val ≤ (x 0).val ∧ (x 0).val < 128 * t.val + 128 := a
  have b' : 128 * t'.val ≤ (x 0).val ∧ (x 0).val < 128 * t'.val + 128 := b
  omega

theorem chunk_cover : (Finset.univ : Finset (Fin 8)).biUnion (fun t => (chunk t).set) = Finset.univ := by
  ext x
  simp only [Finset.mem_biUnion, Finset.mem_univ, true_and, iff_true]
  have h0 : (x 0).val < 1024 := (x 0).isLt
  have h1 : (x 1).val < 2048 := (x 1).isLt
  refine ⟨⟨(x 0).val / 128, by omega⟩, Rect.mem_set_unit.mpr fun a => ?_⟩
  fin_cases a
  · show 128 * ((x 0).val / 128) ≤ (x 0).val ∧ (x 0).val < 128 * ((x 0).val / 128) + 128
    omega
  · show 0 ≤ (x 1).val ∧ (x 1).val < 0 + 2048
    omega

variable (c : Dev nD)

/-- A quarter at any contents is its eight chunks at any contents. -/
theorem chunks_split (b : Memref sig .tc .vmem S1024x2048 .bf16) :
    (iprop(∃ v, owns (c : Thread nD τ) b fullShare v) : sProp 𝕄) ⊢ bigSep Finset.univ fun i => free c b i := by
  iintro ⟨%v, H⟩
  iapply (show (owns (c : Thread nD τ) b fullShare v : sProp 𝕄) ⊢ bigSep Finset.univ fun i => free c b i from
    (owns_rects (c : Thread nD τ) b fullShare chunk (fun _ _ => rfl) chunk_disjoint chunk_cover v).trans
      (bigSep_mono fun i _ => show (has c b i (fun j => v ((chunk i).emb j)) : sProp 𝕄) ⊢ free c b i by iintro H; iexists _; iexact H))
  iexact H

theorem chunks_join (b : Memref sig .tc .vmem S1024x2048 .bf16) :
    (bigSep Finset.univ fun i => free c b i) ⊢ (iprop(∃ v, owns (c : Thread nD τ) b fullShare v) : sProp 𝕄) := by
  refine (bigSep_exists_pi Finset.univ fun i v => has c b i v).trans ?_
  iintro ⟨%v, H⟩
  obtain ⟨X, hX⟩ := glue chunk chunk_disjoint v
  iexists X
  iapply (owns_of_rects (c : Thread nD τ) b fullShare chunk (fun _ _ => rfl) chunk_disjoint chunk_cover X)
  rw [show (fun i => owns (c : Thread nD τ) (b.slice (chunk i) (fun _ => rfl)) fullShare (fun j => X ((chunk i).emb j)) : Fin 8 → sProp 𝕄)
    = fun i => has c b i (v i) from funext fun i => by rw [show (fun j => X ((chunk i).emb j)) = v i from funext (hX i)]]
  iexact H

/-! ## The staged result -/

/-- The rows of the result: the own half and the other half, chunk by chunk. -/
def rows : Bool × Fin 8 → Rect S2048x2048
  | (false, i) => ownRows c i
  | (true, i) => otherRows c i

/-- The first row of a chunk of the result. -/
def row0 : Bool × Fin 8 → ℕ
  | (false, i) => 1024 * (c.val % 2) + 128 * i.val
  | (true, i) => 128 * i.val + 1024 - 1024 * (c.val % 2)

theorem rows_mem (t : Bool × Fin 8) (x : S2048x2048.Idx) :
    x ∈ (rows c t).set ↔ row0 c t ≤ (x 0).val ∧ (x 0).val < row0 c t + 128 := by
  have h1 : (x 1).val < 2048 := (x 1).isLt
  rcases t with ⟨_ | _, i⟩
  · show x ∈ (ownRows c i).set ↔ _
    rw [Rect.mem_set_unit, k0_off3_eq]
    refine ⟨fun h => h 0, fun h a => ?_⟩
    fin_cases a
    · exact h
    · exact ⟨Nat.zero_le _, by show (x 1).val < 0 + 2048; omega⟩
  · show x ∈ (otherRows c i).set ↔ _
    rw [Rect.mem_set_unit, k0_off4_eq]
    refine ⟨fun h => h 0, fun h a => ?_⟩
    fin_cases a
    · exact h
    · exact ⟨Nat.zero_le _, by show (x 1).val < 0 + 2048; omega⟩

theorem rows_stride (t : Bool × Fin 8) (a : Fin S2048x2048.rank) : (rows c t).stride a = 1 := by
  rcases t with ⟨_ | _, i⟩ <;> rfl

theorem rows_disjoint (t t' : Bool × Fin 8) (h : t ≠ t') : Disjoint (rows c t).set (rows c t').set := by
  rw [Finset.disjoint_left]
  intro x hx hx'
  rw [rows_mem] at hx hx'
  apply h
  have hc : c.val % 2 < 2 := Nat.mod_lt _ (by decide)
  rcases t with ⟨b, i⟩
  rcases t' with ⟨b', i'⟩
  have hi := i.isLt
  have hi' := i'.isLt
  cases b <;> cases b' <;> simp only [row0] at hx hx'
  · have : i = i' := Fin.ext (by omega)
    rw [this]
  · exfalso; omega
  · exfalso; omega
  · have : i = i' := Fin.ext (by omega)
    rw [this]

theorem rows_cover : (Finset.univ : Finset (Bool × Fin 8)).biUnion (fun t => (rows c t).set) = Finset.univ := by
  ext x
  simp only [Finset.mem_biUnion, Finset.mem_univ, true_and, iff_true, rows_mem]
  have h0 : (x 0).val < 2048 := (x 0).isLt
  have hc : c.val % 2 < 2 := Nat.mod_lt _ (by decide)
  by_cases h : (x 0).val / 1024 = c.val % 2
  · refine ⟨(false, ⟨(x 0).val % 1024 / 128, by omega⟩), ?_⟩
    show 1024 * (c.val % 2) + 128 * ((x 0).val % 1024 / 128) ≤ (x 0).val ∧ (x 0).val < 1024 * (c.val % 2) + 128 * ((x 0).val % 1024 / 128) + 128
    omega
  · refine ⟨(true, ⟨(x 0).val % 1024 / 128, by omega⟩), ?_⟩
    show 128 * ((x 0).val % 1024 / 128) + 1024 - 1024 * (c.val % 2) ≤ (x 0).val
      ∧ (x 0).val < 128 * ((x 0).val % 1024 / 128) + 1024 - 1024 * (c.val % 2) + 128
    omega

variable (X : Dev nD → (main_arg0 : Ref sig .tc).ty.Contents (Elt F)) (G : Dev nD → S1x2048.Idx → Elt F .f32)

/-- What the kernel leaves in each chunk of the result. -/
def outPart : (t : Bool × Fin 8) → (rows c t).shape.Idx → Elt F .f32
  | (false, i) => normed X G c i
  | (true, i) => up (outY X G (yn c) i)

theorem out_exists : ∃ o : S2048x2048.Idx → Elt F .f32, ∀ t j, o ((rows c t).emb j) = outPart c X G t j :=
  glue (rows c) (rows_disjoint c) (outPart c X G)

/-- What the kernel leaves on device `c`. -/
def outFull : S2048x2048.Idx → Elt F .f32 := (out_exists c X G).choose
theorem outFull_own (i : Fin 8) (j : S128x2048.Idx) : outFull c X G ((ownRows c i).emb j) = normed X G c i j :=
  (out_exists c X G).choose_spec (false, i) j
theorem outFull_other (i : Fin 8) (j : S128x2048.Idx) : outFull c X G ((otherRows c i).emb j) = up (outY X G (yn c) i) j :=
  (out_exists c X G).choose_spec (true, i) j

/-- The staged result at any contents is its chunks at any contents. -/
theorem rows_split : (iprop(∃ v, owns (c : Thread nD τ) oM fullShare v) : sProp 𝕄)
    ⊢ iprop((bigSep Finset.univ fun i => iprop(∃ v, own c i v)) ∗ bigSep Finset.univ fun i => iprop(∃ v, other c i v)) := by
  iintro ⟨%v, H⟩
  iapply (show (owns (c : Thread nD τ) oM fullShare v : sProp 𝕄) ⊢ _ from
    ((owns_rects (c : Thread nD τ) oM fullShare (rows c) (rows_stride c) (rows_disjoint c) (rows_cover c) v).trans
      (Entails.of_eq ((bigSep_univ_prod _).trans (bigSep_eq_bigSepL_of_eq [false, true] (by decide) (by decide) _)))).trans
      (BI.sep_mono (bigSep_mono fun i _ => by
          show (own c i (fun j => v ((ownRows c i).emb j)) : sProp 𝕄) ⊢ iprop(∃ v, own c i v)
          iintro H; iexists _; iexact H)
        (bigSep_mono fun i _ => by
          show (other c i (fun j => v ((otherRows c i).emb j)) : sProp 𝕄) ⊢ iprop(∃ v, other c i v)
          iintro H; iexists _; iexact H)))
  iexact H

/-- The chunks the kernel leaves are the whole result. -/
theorem rows_join : (iprop((bigSep Finset.univ fun i => own c i (normed X G c i)) ∗ bigSep Finset.univ fun i => other c i (up (outY X G (yn c) i))) : sProp 𝕄)
    ⊢ owns (c : Thread nD τ) oM fullShare (outFull c X G) := by
  refine .trans ?_ (owns_of_rects (c : Thread nD τ) oM fullShare (rows c) (rows_stride c) (rows_disjoint c) (rows_cover c) (outFull c X G))
  rw [bigSep_univ_prod, bigSep_eq_bigSepL_of_eq [false, true] (by decide) (by decide)]
  refine BI.sep_mono (bigSep_mono fun i _ => ?_) (bigSep_mono fun i _ => ?_)
  · show (own c i (normed X G c i) : sProp 𝕄) ⊢ own c i (fun j => outFull c X G ((ownRows c i).emb j))
    exact Entails.of_eq (congrArg (own c i) (funext fun j => (outFull_own c X G i j).symm))
  · show (other c i (up (outY X G (yn c) i)) : sProp 𝕄) ⊢ other c i (fun j => outFull c X G ((otherRows c i).emb j))
    exact Entails.of_eq (congrArg (other c i) (funext fun j => (outFull_other c X G i j).symm))

end Cert.KernelIdeal.Steps

end
-- ==== Proof.Body.lean ====
/-
  The whole body on one device.
-/
module

public import proofs.«01_k».proof.Proof.Parts

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (X : Dev nD → (main_arg0 : Ref sig .tc).ty.Contents (Elt F)) (G : Dev nD → S1x2048.Idx → Elt F .f32)
  (κ : GSem nD τ sig → ℕ) (c : Dev nD)

/-! ## Products over the chunks and over the semaphores -/

/-- A product over the chunks, listed in order. -/
theorem eight (Φ : Fin 8 → sProp 𝕄) : bigSep Finset.univ Φ = bigSepL all8 Φ :=
  bigSep_univ_eq_bigSepL all8 (by decide) (by decide) Φ

/-- A product over two. -/
theorem two (Φ : Bool → sProp 𝕄) : bigSep Finset.univ Φ = iprop(Φ false ∗ Φ true) :=
  bigSep_univ_eq_bigSepL [false, true] (by decide) (by decide) Φ

/-- A product over the semaphores of a device, by lane. -/
theorem own_split (Φ : Own → sProp 𝕄) : bigSep Finset.univ Φ
    = iprop((Φ (.inl false) ∗ Φ (.inl true)) ∗ (bigSep Finset.univ fun i => Φ (.inr (.xs, i))) ∗ (bigSep Finset.univ fun i => Φ (.inr (.xr, i)))
      ∗ (bigSep Finset.univ fun i => Φ (.inr (.ys, i))) ∗ bigSep Finset.univ fun i => Φ (.inr (.yr, i))) := by
  rw [bigSep_univ_sum, bigSep_univ_prod, bigSep_univ_eq_bigSepL [false, true] (by decide) (by decide),
    bigSep_univ_eq_bigSepL [Lane.xs, Lane.xr, Lane.ys, Lane.yr] (by decide) (by decide)]
  rfl

/-- A product over the chunks changes chunk by chunk. -/
theorem each {Φ Ψ : Fin 8 → sProp 𝕄} (h : ∀ i, Φ i ⊢ Ψ i) : bigSep Finset.univ Φ ⊢ bigSep Finset.univ Ψ := bigSep_mono fun i _ => h i

/-! ## A local copy -/

/-- A local copy pays its cell with the destination at what the source reads, and the source. -/
theorem copy_rule (b : Bool) {sp : Space} {s : Shape} {e : EltTy} {src : Memref sig .tc .hbm s e} {dst : Memref sig .tc sp s e}
    {hsrc : src.view.WordExact} {hdst : dst.view.WordExact} {hsem : DmaTarget.Typed (nD := nD) .hbm (osem (.inl b)) (.here dst : DmaTarget nD τ sig (c : Thread nD τ).2 sp s e)}
    {q : PosShare TreeShare} {f : src.view.ty.Contents (Elt F)} (hN : dst.view.dmaCredit = NL)
    (hpay : iprop(owns (c : Thread nD τ) dst fullShare (src.view.read (Elt F) f) ∗ (src.view.loc (c : Thread nD τ) ↦[src.view.set]{q} f))
      ⊢ pay X G c (.inl b)) {k : P (F := F) PUnit} {Q : PUnit → sProp 𝕄} :
    iprop(recs X G κ ∗ (src.view.loc (c : Thread nD τ) ↦[src.view.set]{q} f) ∗ (∃ v, owns (c : Thread nD τ) dst fullShare v)
        ∗ dutyTok ER (cell c (.inl b)) 0 false ∗ reached ER (cell c (.inl b)) 0)
      ⊢ iprop((cred (tallyAt (cell c (.inl b)) () (amt (.inl b))) -∗ Runs c k Q)
        -∗ Runs c (.op (.enqueueDma src (.here dst) (osem (.inl b)) hsrc hdst hsem) fun _ => k) Q) := by
  iintro ⟨#HR, Hs, ⟨%v, Hd⟩, Ht, #Hr⟩ Hk
  unfold owns
  icases Hd with ⟨%fd, %hfd, Hd⟩
  iapply (Rounds.wp_copy_pointsTo 𝒱₀ ER (Rd X G) (c : Thread nD τ) none (src := src) (dst := dst) (sem := osem (.inl b)) (q := q)
      (fs := f) (fd := fd) (r := 0) (d := false) (κ := κ (cell c (.inl b)))
      (Finset.mem_singleton_self _) () NL hN (amount_cell X G c _)
      (by
        rw [payload_cell]
        refine .trans (BI.sep_mono ((owns_intro (c : Thread nD τ) dst fullShare _).trans (Entails.of_eq ?_)) (BI.Entails.refl _)) hpay
        rw [View.read_write_univ])) $$ [Hs Hd Ht]
  · isplitr; · iapply (recs_cell c); iexact HR
    isplitl [Hs]; · iexact Hs
    isplitl [Hd]; · iexact Hd
    isplitl [Ht]; · iexact Ht
    iexact Hr
  iintro Hc
  iapply Hk
  iexact Hc

/-! ## The state before and after -/

/-- The tokens and credits of one chunk. -/
def chunkToks (i : Fin 8) : sProp 𝕄 :=
  iprop(dutyTok ER (xsC c i) 0 false ∗ dutyTok ER (xrC (xn c) i) 0 false ∗ dutyTok ER (ysC c i) 0 false ∗ dutyTok ER (yrC (yn c) i) 0 false
    ∗ cred (tallyAt (xrC c i) () N) ∗ cred (tallyAt (yrC c i) () N))

/-- What a device holds of the barrier: its position, the credit of two signals, and the right to signal each neighbour. -/
def barHeld : sProp 𝕄 :=
  iprop(atPos ER (barCell c) 0 ∅ 0 ∗ cred (tallyAt (barCell c) () 2)
    ∗ (dutyTok ER (barCell (xn c)) 0 false ∗ reached ER (barCell (xn c)) 0) ∗ dutyTok ER (barCell (yn c)) 0 true ∗ reached ER (barCell (yn c)) 0)

/-- The scratch buffers at any contents. -/
def scratch : sProp 𝕄 :=
  iprop((∃ v, owns (c : Thread nD τ) sndM fullShare v) ∗ (∃ v, owns (c : Thread nD τ) locM fullShare v)
    ∗ (∃ v, owns (c : Thread nD τ) xsM fullShare v) ∗ (∃ v, owns (c : Thread nD τ) xrM fullShare v)
    ∗ (∃ v, owns (c : Thread nD τ) ysM fullShare v) ∗ (∃ v, owns (c : Thread nD τ) yrM fullShare v))

/-- The device's block of the argument. -/
abbrev argPt : sProp 𝕄 := (c : Thread nD τ).loc (main_arg0 : Ref sig .tc) ↦{fullShare} X c

/-- What a device owes at the start. -/
def O₀ : CellTallies nD τ sig Unit := owed c all8 all8 + tallyAt (barCell (yn c)) () 1 + tallyAt (barCell (xn c)) () 1

def bodyPre : sProp 𝕄 :=
  iprop(recs X G κ ∗ barHeld c
    ∗ (bigSep Finset.univ fun k : Own => iprop(atPos ER (cell c k) 0 ∅ 0 ∗ reached ER (cell c k) 0))
    ∗ (bigSep Finset.univ fun b : Bool => dutyTok ER (cell c (.inl b)) 0 false)
    ∗ (bigSep Finset.univ fun i => chunkToks c i)
    ∗ argPt X c ∗ owns (c : Thread nD τ) gM fullShare (G c) ∗ (∃ v, owns (c : Thread nD τ) oM fullShare v) ∗ scratch c ∗ owesE c (O₀ c))

def bodyPost : sProp 𝕄 :=
  iprop((semVal (barCell c) 0 ∗ bigSep Finset.univ fun k : Own => semVal (cell c k) 0)
    ∗ argPt X c ∗ owns (c : Thread nD τ) gM fullShare (G c) ∗ owns (c : Thread nD τ) oM fullShare (outFull c X G) ∗ scratch c ∗ owesE c 0)

/-! ## Gathering what each phase takes -/

theorem sendA_intro : (iprop((bigSep Finset.univ fun i => free c xsM i) ∗ (bigSep Finset.univ fun i => iprop(free (xn c) xrM i ∗ reached ER (xrC (xn c) i) 0))
      ∗ (bigSep Finset.univ fun i => dutyTok ER (xsC c i) 0 false) ∗ (bigSep Finset.univ fun i => reached ER (xsC c i) 0)
      ∗ bigSep Finset.univ fun i => dutyTok ER (xrC (xn c) i) 0 false) : sProp 𝕄) ⊢ bigSepL all8 (sendA c) := by
  rw [← eight, ← bigSep_sep', ← bigSep_sep', ← bigSep_sep', ← bigSep_sep']
  refine each fun i => ?_
  unfold sendA toks
  iintro ⟨H1, ⟨H2, H3⟩, H4, H5, H6⟩
  isplitl [H1]; · iexact H1
  isplitl [H2]; · iexact H2
  isplitl [H4]; · iexact H4
  isplitl [H5]; · iexact H5
  isplitl [H6]; · iexact H6
  iexact H3

theorem normA_intro : (iprop((bigSep Finset.univ fun i => cred (tallyAt (xrC c i) () N)) ∗ (bigSep Finset.univ fun i => atPos ER (xrC c i) 0 ∅ 0)
      ∗ (bigSep Finset.univ fun i => iprop(∃ v, own c i v)) ∗ (bigSep Finset.univ fun i => free c ysM i)
      ∗ (bigSep Finset.univ fun i => iprop(free (yn c) yrM i ∗ reached ER (yrC (yn c) i) 0))
      ∗ (bigSep Finset.univ fun i => dutyTok ER (ysC c i) 0 false) ∗ (bigSep Finset.univ fun i => reached ER (ysC c i) 0)
      ∗ bigSep Finset.univ fun i => dutyTok ER (yrC (yn c) i) 0 false) : sProp 𝕄) ⊢ bigSepL all8 (normA c) := by
  rw [← eight, ← bigSep_sep', ← bigSep_sep', ← bigSep_sep', ← bigSep_sep', ← bigSep_sep', ← bigSep_sep', ← bigSep_sep']
  refine each fun i => ?_
  unfold normA toks
  iintro ⟨H1, H2, H3, H4, ⟨H5, H6⟩, H7, H8, H9⟩
  isplitl [H1 H2]
  · isplitl [H1]; · iexact H1
    iexact H2
  isplitl [H3]; · iexact H3
  isplitl [H4]; · iexact H4
  isplitl [H5]; · iexact H5
  isplitl [H7]; · iexact H7
  isplitl [H8]; · iexact H8
  isplitl [H9]; · iexact H9
  iexact H6

theorem recvA_intro : (iprop((bigSep Finset.univ fun i => cred (tallyAt (yrC c i) () N)) ∗ (bigSep Finset.univ fun i => atPos ER (yrC c i) 0 ∅ 0)
      ∗ bigSep Finset.univ fun i => iprop(∃ v, other c i v)) : sProp 𝕄) ⊢ bigSepL all8 (recvA c) := by
  rw [← eight, ← bigSep_sep', ← bigSep_sep']
  refine each fun i => ?_
  unfold recvA
  iintro ⟨H1, H2, H3⟩
  isplitl [H1 H2]
  · isplitl [H1]; · iexact H1
    iexact H2
  iexact H3

theorem doneA_intro : (iprop((bigSep Finset.univ fun i => cred (tallyAt (xsC c i) () N)) ∗ (bigSep Finset.univ fun i => atPos ER (xsC c i) 0 ∅ 0)
      ∗ (bigSep Finset.univ fun i => cred (tallyAt (ysC c i) () N)) ∗ bigSep Finset.univ fun i => atPos ER (ysC c i) 0 ∅ 0) : sProp 𝕄)
    ⊢ bigSepL all8 (doneA c) := by
  rw [← eight, ← bigSep_sep', ← bigSep_sep', ← bigSep_sep']
  refine each fun i => ?_
  unfold doneA
  iintro ⟨H1, H2, H3, H4⟩
  isplitl [H1 H2]
  · isplitl [H1]; · iexact H1
    iexact H2
  isplitl [H3]; · iexact H3
  iexact H4

/-! ## The end: every cell closed -/

theorem close_bar : iprop(recs X G κ ∗ atPos ER (barCell c) 1 ∅ 0) ⊢ (|={Set.univ}=> semVal (barCell c) 0 : sProp 𝕄) := by
  iintro ⟨#HR, H⟩
  iapply (Rounds.cell_close ER (Rd X G) (κ := κ (barCell c)) (Set.mem_univ _) id (duties_later X G (barCell c)))
  isplitr; · iapply (recs_bar c); iexact HR
  iexact H

theorem close_cell (k : Own) : iprop(recs X G κ ∗ past c k) ⊢ (|={Set.univ}=> semVal (cell c k) 0 : sProp 𝕄) := by
  iintro ⟨#HR, H⟩
  iapply (Rounds.cell_close ER (Rd X G) (κ := κ (cell c k)) (Set.mem_univ _) id (duties_later X G (cell c k)))
  isplitr; · iapply (recs_cell c k); iexact HR
  iexact H

theorem close_all : iprop(recs X G κ ∗ bigSep Finset.univ fun k : Own => past c k)
    ⊢ (|={Set.univ}=> bigSep Finset.univ fun k : Own => semVal (cell c k) 0 : sProp 𝕄) :=
  (bigSep_with_persistent fun k _ => close_cell X G κ c k).trans (bigSep_fupd _ _)

/-! ## The argument, between the two local copies -/

/-- The rest of each half share of the argument. -/
def srcRest : sProp 𝕄 :=
  iprop(((c : Thread nD τ).loc (main_arg0 : Ref sig .tc) ↦[Finset.univ \ (srcSend c).view.set]{fullShare.left} X c)
    ∗ ((c : Thread nD τ).loc (main_arg0 : Ref sig .tc) ↦[Finset.univ \ (srcKeep c).view.set]{fullShare.right} X c))

theorem left_split : ((c : Thread nD τ).loc (main_arg0 : Ref sig .tc) ↦{fullShare.left} X c : sProp 𝕄)
    ⊣⊢ iprop(srcPt X c false ∗ ((c : Thread nD τ).loc (main_arg0 : Ref sig .tc) ↦[Finset.univ \ (srcSend c).view.set]{fullShare.left} X c)) :=
  pointsTo_split_subset (Finset.subset_univ _)
theorem right_split : ((c : Thread nD τ).loc (main_arg0 : Ref sig .tc) ↦{fullShare.right} X c : sProp 𝕄)
    ⊣⊢ iprop(srcPt X c true ∗ ((c : Thread nD τ).loc (main_arg0 : Ref sig .tc) ↦[Finset.univ \ (srcKeep c).view.set]{fullShare.right} X c)) :=
  pointsTo_split_subset (Finset.subset_univ _)

theorem arg_split : (argPt X c : sProp 𝕄) ⊢ iprop(srcPt X c false ∗ srcPt X c true ∗ srcRest X c) := by
  unfold srcRest
  iintro ⟨H1, H2⟩
  ihave H1 := (left_split X c).1 $$ H1
  ihave H2 := (right_split X c).1 $$ H2
  icases H1 with ⟨Ha, Hb⟩
  icases H2 with ⟨Hc, Hd⟩
  isplitl [Ha]; · iexact Ha
  isplitl [Hc]; · iexact Hc
  isplitl [Hb]; · iexact Hb
  iexact Hd

theorem arg_join : (iprop(srcPt X c false ∗ srcPt X c true ∗ srcRest X c) : sProp 𝕄) ⊢ argPt X c := by
  unfold srcRest
  iintro ⟨Ha, Hc, Hb, Hd⟩
  ihave H1 := (left_split X c).2 $$ [Ha Hb]
  · isplitl [Ha]; · iexact Ha
    iexact Hb
  ihave H2 := (right_split X c).2 $$ [Hc Hd]
  · isplitl [Hc]; · iexact Hc
    iexact Hd
  icombine H1 H2 as H
  iexact H

/-! ## The body -/

theorem barPay_x : barPay (F := F) (xn c) false = bigSep Finset.univ fun i => iprop(free c xrM i ∗ reached ER (xrC c i) 0) := by
  unfold barPay; rw [xn_xn]
theorem barPay_y : barPay (F := F) (yn c) true = bigSep Finset.univ fun i => iprop(free c yrM i ∗ reached ER (yrC c i) 0) := by
  unfold barPay; rw [yn_yn]

theorem credit_snd : (sndM).view.dmaCredit = NL := by unfold NL; rfl
theorem credit_loc : (locM).view.dmaCredit = NL := by unfold NL; rfl

set_option maxHeartbeats 1600000 in
/-- The body on device `c`: from the state before to the state after. -/
theorem body_run (Kt : PUnit → sProp 𝕄) :
    iprop(bodyPre X G κ c ∗ (bodyPost X G c -∗ Kt ⟨⟩)) ⊢ Runs c (kbody (F := F)) Kt := by
  simp only [kbody, wp_deviceId]
  unfold bodyPre barHeld scratch O₀
  simp only [own_split, chunkToks, bigSep_sep', two]
  iintro ⟨⟨#HR, ⟨HatB, HcB, ⟨HtBx, #HrBx⟩, HtBy, #HrBy⟩, ⟨⟨⟨Hat0, Hat1⟩, HatXs, HatXr, HatYs, HatYr⟩, ⟨#Hr0, #Hr1⟩, #HrXs, #HrXr, #HrYs, #HrYr⟩,
    ⟨Ht0, Ht1⟩, ⟨HtXs, HtXr, HtYs, HtYr, HcXr, HcYr⟩, Harg, Hg, Ho, ⟨Hsnd, Hloc, Hxs, Hxr, Hys, Hyr⟩, ⟨%W, HO⟩⟩, Hk⟩
  -- the two signals hand over the landing buffers
  ihave Hxr := (chunks_split c xrM) $$ Hxr
  ihave Hyr := (chunks_split c yrM) $$ Hyr
  iapply (Rounds.wp_signal 𝒱₀ ER (Rd X G) (c : Thread nD τ) none (dst := (xn c : Thread nD τ)) (sem := bar) (r := 0) (d := false) (κ := κ (barCell (xn c)))
      (Finset.mem_univ _) rfl () (owed c all8 all8 + tallyAt (barCell (yn c)) () 1) rfl (hr := route_x c)) $$ [HO HtBx Hxr]
  · isplitr; · iapply (recs_bar (xn c)); iexact HR
    isplitl [HO]; · iexact HO
    isplitl [HtBx]; · iexact HtBx
    isplitl [Hxr]
    · iapply (show (iprop((bigSep Finset.univ fun i => free c xrM i) ∗ bigSep Finset.univ fun i => reached ER (xrC c i) 0) : sProp 𝕄)
        ⊢ (Rd X G).payload (barCell (xn c)) 0 false from by
          show _ ⊢ barPay (xn c) false
          rw [barPay_x, bigSep_sep'])
      isplitl [Hxr]; · iexact Hxr
      iexact HrXr
    · iexact HrBx
  iintro HO
  iapply (Rounds.wp_signal 𝒱₀ ER (Rd X G) (c : Thread nD τ) none (dst := (yn c : Thread nD τ)) (sem := bar) (r := 0) (d := true) (κ := κ (barCell (yn c)))
      (Finset.mem_univ _) rfl () (owed c all8 all8) rfl (hr := route_y c)) $$ [HO HtBy Hyr]
  · isplitr; · iapply (recs_bar (yn c)); iexact HR
    isplitl [HO]; · iexact HO
    isplitl [HtBy]; · iexact HtBy
    isplitl [Hyr]
    · iapply (show (iprop((bigSep Finset.univ fun i => free c yrM i) ∗ bigSep Finset.univ fun i => reached ER (yrC c i) 0) : sProp 𝕄)
        ⊢ (Rd X G).payload (barCell (yn c)) 0 true from by
          show _ ⊢ barPay (yn c) true
          rw [barPay_y, bigSep_sep'])
      isplitl [Hyr]; · iexact Hyr
      iexact HrYr
    · iexact HrBy
  iintro HO
  -- both neighbours have signalled
  iapply (Rounds.wp_wait_rest_token 𝒱₀ ER (Rd X G) (c : Thread nD τ) none (κ := κ (barCell c))
      (wpE_semWait_eq 𝒱₀ (c : Thread nD τ) none Set.univ) (Set.mem_univ _) () (O := owed c all8 all8) (W := W) (R := 0) (m := 0) (T := ∅)
      ((Nat.zero_add 2).trans (expect_bar X G c).symm)) $$ [HcB HO HatB]
  · isplitr; · iapply (recs_bar c); iexact HR
    isplitl [HcB]; · iexact HcB
    isplitl [HO]; · iexact HO
    isplitr
    · iapply (mayWait c (.reg bar) all8 all8 1 le_rfl (fun _ => by decide) (fun _ => by decide))
      iapply (recs_lev (X := X) (G := G) (κ := κ)); iexact HR
    iexact HatB
  iintro ⟨HO, HatB, -, Hpay⟩
  ihave Hp := (Entails.of_eq (rest_bar X G c)) $$ Hpay
  unfold barPay
  icases Hp with ⟨HxrN, HyrN⟩
  -- the two local copies
  ihave Hsrc := (arg_split X c) $$ Harg
  icases Hsrc with ⟨Hs0, Hs1, Hsr⟩
  iapply (copy_rule X G κ c false (src := srcSend c) (dst := sndM) (q := fullShare.left) (f := X c) credit_snd
    (by exact BI.Entails.refl _)) $$ [Hs0 Hsnd Ht0]
  · isplitr; · iexact HR
    isplitl [Hs0]; · iexact Hs0
    isplitl [Hsnd]; · iexact Hsnd
    isplitl [Ht0]; · iexact Ht0
    iexact Hr0
  iintro Hc0
  iapply (copy_rule X G κ c true (src := srcKeep c) (dst := locM) (q := fullShare.right) (f := X c) credit_loc
    (by exact BI.Entails.refl _)) $$ [Hs1 Hloc Ht1]
  · isplitr; · iexact HR
    isplitl [Hs1]; · iexact Hs1
    isplitl [Hloc]; · iexact Hloc
    isplitl [Ht1]; · iexact Ht1
    iexact Hr1
  iintro Hc1
  iapply (wait_rule (X := X) (G := G) (κ := κ) c (.inl false) (src := srcSend c) (dst := sndM) credit_snd
    (mayWait c _ all8 all8 0 (lv_cell c _ ()).le (fun _ => by decide) (fun _ => by decide))) $$ [Hc0 HO Hat0]
  · isplitr; · iexact HR
    isplitl [Hc0]; · iexact Hc0
    isplitl [HO]; · iexists _; iexact HO
    iexact Hat0
  iintro ⟨HO, Hat0, Hp⟩
  ihave Hp := (show pay X G c (.inl false) ⊢ iprop(owns (c : Thread nD τ) sndM fullShare (sendQ X c) ∗ srcPt X c false) from BI.Entails.refl _) $$ Hp
  icases Hp with ⟨Hsnd, Hs0⟩
  -- the sends along x
  ihave Hxs := (chunks_split c xsM) $$ Hxs
  ihave HA := (sendA_intro c) $$ [Hxs HxrN HtXs HtXr]
  · isplitl [Hxs]; · iexact Hxs
    isplitl [HxrN]; · iexact HxrN
    isplitl [HtXs]; · iexact HtXs
    isplitr; · iexact HrXs
    iexact HtXr
  iapply (over_rule c (B := sendB c) (S := sendS X G κ c) (fun i l k => send_step X G κ c i l k) all8 _) $$ [HA HO Hsnd]
  · isplitl [HA]; · iexact HA
    unfold sendS
    isplitr; · iexact HR
    isplitl [Hsnd]; · iexact Hsnd
    iexact HO
  rw [← eight]
  unfold sendS sendB
  iintro ⟨HcXs, -, Hsnd, HO⟩
  iapply (wait_rule (X := X) (G := G) (κ := κ) c (.inl true) (src := srcKeep c) (dst := locM) credit_loc
    (mayWait c _ [] all8 0 (lv_cell c _ ()).le (fun _ => by decide) (fun _ => by decide))) $$ [Hc1 HO Hat1]
  · isplitr; · iexact HR
    isplitl [Hc1]; · iexact Hc1
    isplitl [HO]; · iexact HO
    iexact Hat1
  iintro ⟨HO, Hat1, Hp⟩
  ihave Hp := (show pay X G c (.inl true) ⊢ iprop(owns (c : Thread nD τ) locM fullShare (keepQ X c) ∗ srcPt X c true) from BI.Entails.refl _) $$ Hp
  icases Hp with ⟨Hloc, Hs1⟩
  -- the normalised chunks
  ihave Ho := (rows_split c) $$ Ho
  icases Ho with ⟨Hown, Hother⟩
  ihave Hys := (chunks_split c ysM) $$ Hys
  ihave HA := (normA_intro c) $$ [HcXr HatXr Hown Hys HyrN HtYs HtYr]
  · isplitl [HcXr]; · iexact HcXr
    isplitl [HatXr]; · iexact HatXr
    isplitl [Hown]; · iexact Hown
    isplitl [Hys]; · iexact Hys
    isplitl [HyrN]; · iexact HyrN
    isplitl [HtYs]; · iexact HtYs
    isplitr; · iexact HrYs
    iexact HtYr
  iapply (over_rule c (B := normB X G c) (S := normS X G κ c) (fun i l k => norm_step X G κ c i l k) all8 _) $$ [HA HO Hloc Hg]
  · isplitl [HA]; · iexact HA
    unfold normS
    isplitr; · iexact HR
    isplitl [Hloc]; · iexact Hloc
    isplitl [Hg]; · iexact Hg
    iexact HO
  rw [← eight]
  unfold normS normB
  rw [bigSep_sep', bigSep_sep', bigSep_sep']
  iintro ⟨⟨HpXr, Hxr, Hown, HcYs⟩, -, Hloc, Hg, HO⟩
  -- the chunks received along y
  ihave HA := (recvA_intro c) $$ [HcYr HatYr Hother]
  · isplitl [HcYr]; · iexact HcYr
    isplitl [HatYr]; · iexact HatYr
    iexact Hother
  iapply (over_rule c (B := recvB X G c) (S := restS X G κ c) (fun i l k => recv_step X G κ c i l k) all8 _) $$ [HA HO]
  · isplitl [HA]; · iexact HA
    unfold restS
    isplitr; · iexact HR
    iexact HO
  rw [← eight]
  unfold restS recvB
  rw [bigSep_sep', bigSep_sep']
  iintro ⟨⟨HpYr, Hyr, Hother⟩, -, HO⟩
  -- the last waits
  ihave HA := (doneA_intro c) $$ [HcXs HatXs HcYs HatYs]
  · isplitl [HcXs]; · iexact HcXs
    isplitl [HatXs]; · iexact HatXs
    isplitl [HcYs]; · iexact HcYs
    iexact HatYs
  iapply (over_rule c (B := doneB c) (S := restS X G κ c) (fun i l k => done_step X G κ c i l k) all8 _) $$ [HA HO]
  · isplitl [HA]; · iexact HA
    unfold restS
    isplitr; · iexact HR
    iexact HO
  rw [← eight]
  unfold restS doneB
  rw [bigSep_sep', bigSep_sep', bigSep_sep']
  iintro ⟨⟨⟨HpXs, Hxs⟩, HpYs, Hys⟩, -, HO⟩
  -- every cell closed
  unfold Runs
  rw [wp_ret]
  imod (close_bar X G κ c) $$ [HatB] with HvB
  · isplitr; · iexact HR
    iexact HatB
  imod (close_all X G κ c) $$ [Hat0 Hat1 HpXs HpXr HpYs HpYr] with Hv
  · isplitr; · iexact HR
    rw [own_split]
    isplitl [Hat0 Hat1]
    · isplitl [Hat0]; · iexact Hat0
      iexact Hat1
    isplitl [HpXs]; · iexact HpXs
    isplitl [HpXr]; · iexact HpXr
    isplitl [HpYs]; · iexact HpYs
    iexact HpYr
  imodintro
  iapply Hk
  unfold bodyPost scratch
  isplitl [HvB Hv]
  · isplitl [HvB]; · iexact HvB
    iexact Hv
  isplitl [Hs0 Hs1 Hsr]
  · iapply (arg_join X c)
    isplitl [Hs0]; · iexact Hs0
    isplitl [Hs1]; · iexact Hs1
    iexact Hsr
  isplitl [Hg]; · iexact Hg
  isplitl [Hown Hother]
  · iapply (rows_join c X G)
    isplitl [Hown]; · iexact Hown
    iexact Hother
  isplitr [HO]
  · isplitl [Hsnd]; · iexists _; iexact Hsnd
    isplitl [Hloc]; · iexists _; iexact Hloc
    isplitl [Hxs]; · iapply (chunks_join c xsM); iexact Hxs
    isplitl [Hxr]; · iapply (chunks_join c xrM); iexact Hxr
    isplitl [Hys]; · iapply (chunks_join c ysM); iexact Hys
    iapply (chunks_join c yrM); iexact Hyr
  · rw [owed_nil]; iexact HO

end Cert.KernelIdeal.Steps

end
-- ==== Proof.Region.lean ====
/-
  The kernel's region: the proof data of its one grid point, and what the region takes and gives back.
-/
module

public import proofs.«01_k».proof.Proof.Body
public import proofs.«01_k».proof.Proof.Gen.KernelIdeal.Frame
public import Idealize.ShloMosaic.Lib.Pipeline.ValueKit

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ)

/-! ## The contents of the buffers -/

/-- The buffers of device `c` at the start, and when the region is entered. -/
abbrev V₀ (c : Dev nD) : Valuation τ sig (Elt F) := fun b => m (c, b)
abbrev V₁ (c : Dev nD) : Valuation τ sig (Elt F) := StableHlo.after hostOps0 (V₀ m c)

/-- The devices' blocks of the partial sums. -/
def Xm (c : Dev nD) : (main_arg0 : Ref sig .tc).ty.Contents (Elt F) := V₁ m c main_arg0
/-- The weights as staged. -/
def Gm (c : Dev nD) : S1x2048.Idx → Elt F .f32 := iblk m c 0 t0_0

/-! ## The proof data -/

/-- What a device holds of the protocol when its kernel starts, all cells open. -/
def started (c : Dev nD) : sProp 𝕄 :=
  iprop(∃ κ, recs (Xm m) (Gm m) κ ∗ barHeld c
    ∗ (bigSep Finset.univ fun k : Own => iprop(atPos ER (cell c k) 0 ∅ 0 ∗ reached ER (cell c k) 0))
    ∗ (bigSep Finset.univ fun b : Bool => dutyTok ER (cell c (.inl b)) 0 false)
    ∗ (bigSep Finset.univ fun i => chunkToks c i))

/-- The invariant before the one grid point, and after it. -/
def Φ₀ (c : Dev nD) : sProp 𝕄 := iprop(started m c ∗ argPt (Xm m) c ∗ scratch c ∗ ∃ r, prngReg c r)
def Φ₁ (c : Dev nD) : sProp 𝕄 :=
  iprop((semVal (barCell c) 0 ∗ bigSep Finset.univ fun k : Own => semVal (cell c k) 0) ∗ argPt (Xm m) c ∗ scratch c ∗ ∃ r, prngReg c r)

def dat (c : Dev nD) : Dat τ (Elt F) Unit ℕ UU ℕ cfg0 c where
  A w := V m c (Pipeline.arrRef spec0 w)
  after w _ := match w with
    | 0 => iblk m c 0 t0_0
    | 1 => outFull c (Xm m) (Gm m)
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_at (c : Dev nD) (t : Fin (cfg0.N + 1)) : (dat m c).owed t = if t.val = 0 then O₀ c else 0 := rfl
theorem Φ_at (c : Dev nD) (t : Fin (cfg0.N + 1)) : (dat m c).Φ t = if t.val = 0 then Φ₀ m c else Φ₁ m c := rfl
theorem at_start : (t0_0.castSucc : Fin (cfg0.N + 1)).val = 0 := rfl
theorem at_end : (t0_0.succ : Fin (cfg0.N + 1)).val ≠ 0 := Nat.succ_ne_zero _
theorem at_last : (Fin.last cfg0.N).val ≠ 0 := by rw [Fin.val_last, show cfg0.N = 1 from N_0]; decide
theorem owed_first (c : Dev nD) : (dat m c).owed 0 = O₀ c := (owed_at m c 0).trans (if_pos rfl)
theorem owed_start (c : Dev nD) : (dat m c).owed t0_0.castSucc = O₀ c := (owed_at m c _).trans (if_pos at_start)
theorem owed_end (c : Dev nD) : (dat m c).owed t0_0.succ = 0 := (owed_at m c _).trans (if_neg at_end)
theorem owed_last (c : Dev nD) : (dat m c).owed (Fin.last cfg0.N) = 0 := (owed_at m c _).trans (if_neg at_last)
theorem Φ_first (c : Dev nD) : (dat m c).Φ 0 = Φ₀ m c := (Φ_at m c 0).trans (if_pos rfl)
theorem Φ_start (c : Dev nD) : (dat m c).Φ t0_0.castSucc = Φ₀ m c := (Φ_at m c _).trans (if_pos at_start)
theorem Φ_end (c : Dev nD) : (dat m c).Φ t0_0.succ = Φ₁ m c := (Φ_at m c _).trans (if_neg at_end)
theorem Φ_last (c : Dev nD) : (dat m c).Φ (Fin.last cfg0.N) = Φ₁ m c := (Φ_at m c _).trans (if_neg at_last)

theorem before_gamma (c : Dev nD) (d) : (dat m c).before 0 t0_0 d = Gm m c := by
  refine ((dat m c).before_in_eq_fetched 0 rfl (fun _ => rfl) (fun _ _ _ => rfl) (fun t => ?_) t0_0 d).trans ?_
  · rw [fin_N0 t]; rfl
  · rfl

theorem owesAt_in (c : Dev nD) : ((dat m c).owesAt () t0_0.castSucc : sProp 𝕄) ⊢ owesE c (O₀ c) := by
  unfold Dat.owesAt Pipeline.owesWithin; rw [owed_start]
  iintro ⟨%W, -, HO⟩; iexists W; iexact HO
theorem owesAt_out (c : Dev nD) : owesE c 0 ⊢ ((dat m c).owesAt () t0_0.succ : sProp 𝕄) := by
  unfold Dat.owesAt Pipeline.owesWithin Dat.bound; rw [owed_end]
  iintro ⟨%W, HO⟩; iexists W; isplitr; · ipureintro; exact fun _ _ => Or.inl trivial
  iexact HO

/-- The body at the grid point: from the invariant before it to the invariant after it. -/
theorem body_ok (c : Dev nD) : BodyObligation (dat m c) defs₀ 𝒱₀ () Set.univ := fun t => by
  obtain rfl := fin_N0 t
  rw [bigSep_W0, bigSep_W0, Φ_start, Φ_end]
  unfold Φ₀ Φ₁ started
  iintro ⟨⟨⟨%κ, #HR, Hb, Hk, Hl, Hc⟩, Harg, Hs, Hp⟩, HO, ⟨%d, Hg⟩, ⟨%d', Ho⟩⟩
  ihave HO := (owesAt_in m c) $$ HO
  ihave Hg := (show owns (c : Thread nD τ) gM fullShare ((dat m c).before 0 t0_0 d) ⊢ owns (c : Thread nD τ) gM fullShare (Gm m c) from
    Entails.of_eq (by rw [before_gamma])) $$ Hg
  iapply (show iprop(bodyPre (Xm m) (Gm m) κ c ∗ (bodyPost (Xm m) (Gm m) c -∗ _)) ⊢
      wp frame (wpE (defs₀ (F := F)) 𝒱₀ (c : Thread nD τ) none) Set.univ (bodyAt0 (F := F) t0_0) _ from
    (body_eq (F := F)) ▸ body_run (Xm m) (Gm m) κ c _)
  isplitl [Hb Hk Hl Hc Harg Hs HO Hg Ho]
  · unfold bodyPre
    isplitr; · iexact HR
    isplitl [Hb]; · iexact Hb
    isplitl [Hk]; · iexact Hk
    isplitl [Hl]; · iexact Hl
    isplitl [Hc]; · iexact Hc
    isplitl [Harg]; · iexact Harg
    isplitl [Hg]; · iexact Hg
    isplitl [Ho]; · iexists _; iexact Ho
    isplitl [Hs]; · iexact Hs
    iexact HO
  unfold bodyPost
  iintro ⟨Hz, Harg, Hg, Ho, Hs, HO⟩
  isplitl [Hz Harg Hs Hp]
  · isplitl [Hz]; · iexact Hz
    isplitl [Harg]; · iexact Harg
    isplitl [Hs]; · iexact Hs
    iexact Hp
  isplitl [HO]; · iapply (owesAt_out m c); iexact HO
  isplitl [Hg]; · iexact Hg
  iexact Ho

end Cert.KernelIdeal.Steps

end
-- ==== Proof.Launch.lean ====
/-
  The launch: every cell's invariant made, every token and credit dealt, and the run of the whole program.
-/
module

public import proofs.«01_k».proof.Proof.Region

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The cells and the tokens -/

theorem cell_eq {c d : Dev nD} {k l : Own} (h : cell c k = cell d l) : c = d ∧ k = l :=
  ⟨congrArg (fun g : GSem nD τ sig => g.1.1) h, osem_inj (congrArg Prod.snd h)⟩
theorem bar_eq {c d : Dev nD} (h : barCell c = barCell d) : c = d := congrArg (fun g : GSem nD τ sig => g.1.1) h
theorem reg_ne (k : Own) : (SemLoc.reg bar : SemLoc sig) ≠ osem k := by
  show SemLoc.reg bar ≠ SemLoc.dma (dsem k)
  exact nofun
theorem bar_ne_cell (c d : Dev nD) (k : Own) : barCell c ≠ cell d k := fun h => reg_ne k (congrArg Prod.snd h)

def barEmb : Dev nD ↪ GSem nD τ sig := ⟨barCell, fun _ _ h => bar_eq h⟩
def ownEmb : Dev nD × Own ↪ GSem nD τ sig := ⟨fun p => cell p.1 p.2, fun _ _ h => Prod.ext (cell_eq h).1 (cell_eq h).2⟩
abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  exact bar_ne_cell c p.1 p.2 h.symm

/-- The tokens of a device's own cells: two for its barrier cell, one for each other cell. -/
abbrev tokAt (c : Dev nD) : Bool ⊕ Own → GSem nD τ sig × ℕ × Bool
  | .inl b => (barCell c, 0, b)
  | .inr k => (cell c k, 0, false)
theorem tokAt_inj (c d : Dev nD) (s t : Bool ⊕ Own) (h : tokAt c s = tokAt d t) : c = d ∧ s = t := by
  rcases s with b | k <;> rcases t with b' | k'
  · exact ⟨bar_eq (congrArg Prod.fst h), congrArg (fun x : GSem nD τ sig × ℕ × Bool => (Sum.inl x.2.2 : Bool ⊕ Own)) h⟩
  · exact absurd (congrArg Prod.fst h) (bar_ne_cell c d k')
  · exact absurd (congrArg Prod.fst h).symm (bar_ne_cell d c k)
  · exact ⟨(cell_eq (congrArg Prod.fst h)).1, congrArg Sum.inr (cell_eq (congrArg Prod.fst h)).2⟩
def allToks : Finset (GSem nD τ sig × ℕ × Bool) :=
  Finset.univ.map ⟨fun p : Dev nD × (Bool ⊕ Own) => tokAt p.1 p.2, fun p q h => Prod.ext (tokAt_inj _ _ _ _ h).1 (tokAt_inj _ _ _ _ h).2⟩

/-- The tokens of device `c`'s cells, and the tokens that device `c` pays with. -/
def heldToks (c : Dev nD) : sProp 𝕄 :=
  iprop((dutyTok ER (barCell c) 0 false ∗ dutyTok ER (barCell c) 0 true) ∗ (bigSep Finset.univ fun b : Bool => dutyTok ER (cell c (.inl b)) 0 false)
    ∗ (bigSep Finset.univ fun i => dutyTok ER (xsC c i) 0 false) ∗ (bigSep Finset.univ fun i => dutyTok ER (xrC c i) 0 false)
    ∗ (bigSep Finset.univ fun i => dutyTok ER (ysC c i) 0 false) ∗ bigSep Finset.univ fun i => dutyTok ER (yrC c i) 0 false)
def paidToks (c : Dev nD) : sProp 𝕄 :=
  iprop((dutyTok ER (barCell (xn c)) 0 false ∗ dutyTok ER (barCell (yn c)) 0 true) ∗ (bigSep Finset.univ fun b : Bool => dutyTok ER (cell c (.inl b)) 0 false)
    ∗ (bigSep Finset.univ fun i => dutyTok ER (xsC c i) 0 false) ∗ (bigSep Finset.univ fun i => dutyTok ER (xrC (xn c) i) 0 false)
    ∗ (bigSep Finset.univ fun i => dutyTok ER (ysC c i) 0 false) ∗ bigSep Finset.univ fun i => dutyTok ER (yrC (yn c) i) 0 false)

theorem toks_eq : bigSep allToks (fun x => (dutyTok ER x.1 x.2.1 x.2.2 : sProp 𝕄)) = bigSep Finset.univ fun c : Dev nD => heldToks c := by
  unfold allToks; rw [bigSep_map, bigSep_univ_prod]
  refine bigSep_congr fun c _ => ?_
  unfold heldToks
  rw [bigSep_univ_sum, two, two, bigSep_univ_sum, two, bigSep_univ_prod,
    bigSep_univ_eq_bigSepL [Lane.xs, Lane.xr, Lane.ys, Lane.yr] (by decide) (by decide)]
  rfl

/-- The tokens of the landing cells go to the neighbours, which pay with them. -/
theorem toks_around : (bigSep Finset.univ fun c : Dev nD => (heldToks c : sProp 𝕄)) ⊢ bigSep Finset.univ fun c : Dev nD => paidToks c := by
  unfold heldToks paidToks
  simp only [bigSep_sep']
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => (bigSep Finset.univ fun i => dutyTok ER (xrC c i) 0 false : sProp 𝕄)),
    bigSep_univ_equiv yEquiv (fun c : Dev nD => (bigSep Finset.univ fun i => dutyTok ER (yrC c i) 0 false : sProp 𝕄))]
  exact BI.Entails.refl _

/-! ## The credit at the launch -/

theorem pick (n : ℕ) (i : Fin 8) : (all8.map fun j => if i = j then n else 0).sum = n := by
  fin_cases i <;> simp [all8]

theorem sum_at (f : Fin 8 → CellTallies nD τ sig Unit) (l : List (Fin 8)) (g : GSem nD τ sig) (u : Unit) :
    (l.map f).sum g u = (l.map fun j => f j g u).sum := by
  induction l with
  | nil => rfl
  | cons i l ih => rw [List.map_cons, List.sum_cons, List.map_cons, List.sum_cons, Pi.add_apply, Finsupp.add_apply, ih]

theorem lane_sum (d c : Dev nD) (a b : Lane) (i : Fin 8) :
    (all8.map fun j => (tallyAt (cell d (.inr (a, j))) () N : CellTallies nD τ sig Unit)).sum (cell c (.inr (b, i))) ()
      = if d = c ∧ a = b then N else 0 := by
  rw [sum_at]
  by_cases h : d = c ∧ a = b
  · obtain ⟨rfl, rfl⟩ := h
    rw [if_pos ⟨rfl, rfl⟩]
    refine Eq.trans (congrArg (fun f => (all8.map f).sum) (funext fun j => ?_)) (pick N i)
    rw [tallyAt_apply]
    by_cases hij : i = j
    · subst hij; rw [if_pos ⟨rfl, rfl⟩, if_pos rfl]
    · rw [if_neg (fun hh => hij (congrArg Prod.snd (Sum.inr.inj (cell_eq hh.1).2))), if_neg hij]
  · rw [if_neg h]
    refine List.sum_eq_zero fun n hn => ?_
    obtain ⟨j, -, rfl⟩ := List.mem_map.mp hn
    rw [tallyAt_apply, if_neg]
    exact fun hh => h ⟨(cell_eq hh.1).1.symm, (congrArg Prod.fst (Sum.inr.inj (cell_eq hh.1).2)).symm⟩

theorem tally_bar_cell (d c : Dev nD) (k : Own) (n : ℕ) : (tallyAt (barCell d) () n : CellTallies nD τ sig Unit) (cell c k) () = 0 := by
  rw [tallyAt_ne_cell (fun h => bar_ne_cell d c k h.symm)]; rfl

theorem O₀_xr (d c : Dev nD) (i : Fin 8) : O₀ d (xrC c i) () = if d = xn c then N else 0 := by
  unfold O₀ owed
  simp only [Pi.add_apply, Finsupp.add_apply]
  rw [lane_sum, lane_sum, tally_bar_cell, tally_bar_cell, if_neg (fun h : yn d = c ∧ Lane.yr = Lane.xr => Lane.noConfusion h.2)]
  by_cases h : d = xn c
  · subst h; rw [if_pos ⟨xn_xn c, rfl⟩, if_pos rfl]; rfl
  · rw [if_neg (fun hh => h (by rw [← hh.1, xn_xn])), if_neg h]

theorem O₀_yr (d c : Dev nD) (i : Fin 8) : O₀ d (yrC c i) () = if d = yn c then N else 0 := by
  unfold O₀ owed
  simp only [Pi.add_apply, Finsupp.add_apply]
  rw [lane_sum, lane_sum, tally_bar_cell, tally_bar_cell, if_neg (fun h : xn d = c ∧ Lane.xr = Lane.yr => Lane.noConfusion h.2)]
  by_cases h : d = yn c
  · subst h; rw [if_pos ⟨yn_yn c, rfl⟩, if_pos rfl, Nat.zero_add]; rfl
  · rw [if_neg (fun hh => h (by rw [← hh.1, yn_yn])), if_neg h]

theorem owed_bar (d c : Dev nD) : owed d all8 all8 (barCell c) () = 0 := by
  refine Nat.eq_zero_of_not_pos fun h => ?_
  rcases owed_pos h with ⟨i, -, e⟩ | ⟨i, -, e⟩ <;> exact bar_ne_cell _ _ _ e

theorem tally_bar_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg (fun hh => h (bar_eq hh.1).symm), if_neg h]

theorem O₀_bar (c : Dev nD) : ∑ d : Dev nD, O₀ d (barCell c) () = 2 := by
  have h (d : Dev nD) : O₀ d (barCell c) () = (if yn d = c then 1 else 0) + if xn d = c then 1 else 0 := by
    unfold O₀
    simp only [Pi.add_apply, Finsupp.add_apply]
    rw [owed_bar, tally_bar_bar, tally_bar_bar, Nat.zero_add]
  rw [Finset.sum_congr rfl fun d _ => h d]
  clear h; revert c; decide

theorem credit_at {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem all_credit_xr (c : Dev nD) (i : Fin 8) : ∑ d : Dev nD, O₀ d (xrC c i) () = N := by
  rw [Finset.sum_congr rfl fun d _ => O₀_xr d c i, Finset.sum_ite_eq' Finset.univ (xn c) fun _ => N, if_pos (Finset.mem_univ _)]
theorem all_credit_yr (c : Dev nD) (i : Fin 8) : ∑ d : Dev nD, O₀ d (yrC c i) () = N := by
  rw [Finset.sum_congr rfl fun d _ => O₀_yr d c i, Finset.sum_ite_eq' Finset.univ (yn c) fun _ => N, if_pos (Finset.mem_univ _)]

/-- The semaphores on which a device waits for others. -/
abbrev awaitedSem : Unit ⊕ Fin 8 ⊕ Fin 8 → SemLoc sig
  | .inl _ => .reg bar
  | .inr (.inl i) => osem (.inr (.xr, i))
  | .inr (.inr i) => osem (.inr (.yr, i))
theorem awaitedSem_inj : Function.Injective awaitedSem := by
  rintro (⟨⟩ | i | i) (⟨⟩ | j | j) h
  · rfl
  · exact absurd h (reg_ne _)
  · exact absurd h (reg_ne _)
  · exact absurd h.symm (reg_ne _)
  · exact congrArg (fun x => Sum.inr (Sum.inl x)) (congrArg Prod.snd (Sum.inr.inj (osem_inj h)))
  · exact Lane.noConfusion (congrArg Prod.fst (Sum.inr.inj (osem_inj h)))
  · exact absurd h.symm (reg_ne _)
  · exact Lane.noConfusion (congrArg Prod.fst (Sum.inr.inj (osem_inj h)))
  · exact congrArg (fun x => Sum.inr (Sum.inr x)) (congrArg Prod.snd (Sum.inr.inj (osem_inj h)))

theorem creds (c : Dev nD) : (Pipeline.launchCred O₀ c : sProp 𝕄)
    ⊢ iprop(cred (tallyAt (barCell c) () 2) ∗ (bigSep Finset.univ fun i => cred (tallyAt (xrC c i) () N)) ∗ bigSep Finset.univ fun i => cred (tallyAt (yrC c i) () N)) := by
  unfold Pipeline.launchCred
  refine Entails.trans (show _ ⊢ _ from bigSep_subset (Finset.subset_univ (Finset.univ.map (⟨awaitedSem, awaitedSem_inj⟩ : Unit ⊕ Fin 8 ⊕ Fin 8 ↪ SemLoc sig)))) ?_
  rw [bigSep_map, bigSep_univ_sum, bigSep_univ_sum]
  refine BI.sep_mono ?_ (BI.sep_mono ?_ ?_)
  · rw [show (Finset.univ : Finset Unit) = {()} from rfl, bigSep_singleton]
    exact Entails.of_eq (congrArg cred (credit_at (O₀_bar c)))
  · exact each fun i => Entails.of_eq (congrArg cred (credit_at (all_credit_xr c i)))
  · exact each fun i => Entails.of_eq (congrArg cred (credit_at (all_credit_yr c i)))

/-! ## What each device is dealt -/

/-- What a device holds of the protocol before its kernel starts, its scoped cells not yet open. -/
def dealt (c : Dev nD) : sProp 𝕄 :=
  iprop(∃ κ, recs (Xm m) (Gm m) κ ∗ barHeld c ∗ (bigSep Finset.univ fun k : Own => openTok ER (cell c k))
    ∗ (bigSep Finset.univ fun b : Bool => dutyTok ER (cell c (.inl b)) 0 false) ∗ (bigSep Finset.univ fun i => chunkToks c i))

theorem open_cell (κ : GSem nD τ sig → ℕ) (c : Dev nD) (k : Own) :
    iprop(recs (Xm m) (Gm m) κ ∗ (openTok ER (cell c k) ∗ semVal (cell c k) 0))
      ⊢ (|={Set.univ}=> iprop(atPos ER (cell c k) 0 ∅ 0 ∗ reached ER (cell c k) 0) : sProp 𝕄) := by
  iintro ⟨#HR, Ho, Hv⟩
  iapply (Rounds.cell_open ER (Rd (Xm m) (Gm m)) (g := cell c k) (Set.mem_univ (κ (cell c k))))
  isplitr; · iapply (recs_cell c k); iexact HR
  isplitl [Ho]; · iexact Ho
  iexact Hv

theorem open_all (κ : GSem nD τ sig → ℕ) (c : Dev nD) :
    iprop(recs (Xm m) (Gm m) κ ∗ bigSep Finset.univ fun k : Own => iprop(openTok ER (cell c k) ∗ semVal (cell c k) 0))
      ⊢ (|={Set.univ}=> bigSep Finset.univ fun k : Own => iprop(atPos ER (cell c k) 0 ∅ 0 ∗ reached ER (cell c k) 0) : sProp 𝕄) :=
  (bigSep_with_persistent fun k _ => open_cell m κ c k).trans (bigSep_fupd _ _)

/-- At the entry of the kernel its scoped cells open. -/
theorem start_kernel (c : Dev nD) : iprop(dealt m c ∗ Pipeline.ownSems0 osem c ∗ levAts L lv) ⊢ (|={Set.univ}=> started m c : sProp 𝕄) := by
  unfold dealt started Pipeline.ownSems0
  iintro ⟨⟨%κ, #HR, Hb, Ho, Hl, Hc⟩, Hv, -⟩
  imod (open_all m κ c) $$ [Ho Hv] with Hk
  · isplitr; · iexact HR
    rw [bigSep_sep']
    isplitl [Ho]; · iexact Ho
    iexact Hv
  imodintro
  iexists κ
  isplitr; · iexact HR
  isplitl [Hb]; · iexact Hb
  isplitl [Hk]; · iexact Hk
  isplitl [Hl]; · iexact Hl
  iexact Hc

end Cert.KernelIdeal.Steps

end
-- ==== Proof.Run.lean ====
/-
  The run of the whole program: the reshape of the weights, then the kernel's region, on all four devices.
-/
module

public import proofs.«01_k».proof.Proof.Launch

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The buffers -/

/-- The buffers that live for the whole program. -/
def bufs : Finset (DevRef τ sig) := (StableHlo.tcRefs τ sig).filter fun b => ¬ b.isScoped
/-- The one that the kernel addresses itself, and with it the weights as given. -/
abbrev argBuf : Finset (DevRef τ sig) := {Proc.devRef .tc main_arg0}
abbrev argBufs : Finset (DevRef τ sig) := {Proc.devRef .tc main_arg0, Proc.devRef .tc main_arg1}

/-- Buffer `b` of device `c`, whole, at `f`. -/
abbrev pt (c : Dev nD) (b : Ref sig .tc) (f : Buf (Elt F) ((c : Thread nD τ).loc b)) : sProp 𝕄 := (c : Thread nD τ).loc b ↦{fullShare} f

theorem bufs_held (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem bufs_list (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
theorem arrs_list (c : Dev nD) (W : Valuation τ sig (Elt F)) :
    (StableHlo.held (c : Thread nD τ) (Pipeline.arrRefs (τ := τ) (pcfgs (F := F) 0).spec) W : sProp 𝕄)
      = iprop(pt c main_v1 (W main_v1) ∗ pt c main_v2 (W main_v2)) := by
  unfold StableHlo.held
  rw [bigSep_eq_bigSepL_of_eq [Proc.devRef .tc main_v1, Proc.devRef .tc main_v2]
    (show Pipeline.arrRefs (τ := τ) spec0 = [Proc.devRef .tc main_v1, Proc.devRef .tc main_v2].toFinset by decide) (by decide)]
  rfl
theorem args_list (c : Dev nD) (W : Valuation τ sig (Elt F)) : (StableHlo.held (c : Thread nD τ) argBufs W : sProp 𝕄)
    = iprop(pt c main_arg0 (W main_arg0) ∗ pt c main_arg1 (W main_arg1)) := by
  unfold StableHlo.held
  rw [bigSep_eq_bigSepL_of_eq [Proc.devRef .tc main_arg0, Proc.devRef .tc main_arg1] (by decide) (by decide)]
  rfl
theorem arg_list (c : Dev nD) (W : Valuation τ sig (Elt F)) : (StableHlo.held (c : Thread nD τ) argBuf W : sProp 𝕄) = pt c main_arg0 (W main_arg0) := by
  unfold StableHlo.held
  rw [bigSep_singleton]

theorem sems_list (c : Dev nD) : (unscopedSems0 c : sProp 𝕄) = semVal (barCell c) 0 := by
  unfold unscopedSems0
  rw [show (Finset.univ.filter fun sm : SemLoc sig => ¬ sm.isScoped .tc) = {SemLoc.reg bar} from by decide, BI.bigSep_singleton]

/-- The kernel's scratch buffers, as the region boundary holds them and as the kernel does. -/
theorem scratch_eq (c : Dev nD) : (Pipeline.scopedRest (Ix := Unit) (Name := ℕ) (U := UU) (Lvl := ℕ) (Val := Elt F) spec0 c : sProp 𝕄) = scratch c := by
  rw [scopedRest0_eq]
  unfold scratch sndM locM xsM xrM ysM yrM
  simp only [owns_whole]
  rfl

/-! ## The two segments -/

/-- The result: the array that the region writes back. -/
theorem arr_out (c : Dev nD) : (dat m c).arrAt 1 cfg0.N = outFull c (Xm m) (Gm m) :=
  (dat m c).arrAt_eq_of_after_last 1 t0_0 (by decide +kernel) (outFull c (Xm m) (Gm m)) fun j => by rfl

/-- The buffers when the region is left. -/
def V₂ (c : Dev nD) : Valuation τ sig (Elt F) := Function.update (V₁ m c) (Proc.devRef .tc main_v2) (outFull c (Xm m) (Gm m))
theorem V₂_out (c : Dev nD) : V₂ m c main_v2 = outFull c (Xm m) (Gm m) := Function.update_self ..
theorem V₂_rest (c : Dev nD) (b : DevRef τ sig) (h : b ≠ Proc.devRef .tc main_v2) : V₂ m c b = V₁ m c b := Function.update_of_ne h ..

/-- What rides beside the buffers up to the region. -/
def R (c : Dev nD) : sProp 𝕄 := iprop(dealt m c ∗ (∃ r, prngReg c r) ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem ops_fresh : ∀ op ∈ (hostOps0 : List (HloOp τ sig (Elt F))), op.fresh = ∅ := List.forall_iff_forall_mem.mp hostOps0_fresh

/-- The reshape of the weights. -/
def seg0 : Pipeline.HostSeg (Name := ℕ) (U := UU) (pcfgs (F := F)) defs₀ 𝒱₀ L lv :=
  Pipeline.HostSeg.ofOps _ _ _ _ _ bufs hostOps0 ops_sub ops_fresh (V₀ m) (R m)

theorem enter (c : Dev nD) :
    iprop(Pipeline.scopedRest (Pipeline.pin (pcfgs (F := F)) adm 0).spec c ∗ (∃ r, prngReg c r) ∗ StableHlo.held (c.tc : Thread nD τ) argBuf (V₁ m c) ∗ started m c)
      ⊢ ((pdats m 0 c).Φ 0 : sProp 𝕄) := by
  rw [show (pdats m 0 c).Φ 0 = Φ₀ m c from Φ_first m c, show Pipeline.scopedRest (Pipeline.pin (pcfgs (F := F)) adm 0).spec c = (scratch c : sProp 𝕄) from scratch_eq c,
    arg_list]
  unfold Φ₀ argPt Xm
  iintro ⟨Hs, Hp, Ha, Hk⟩
  isplitl [Hk]; · iexact Hk
  isplitl [Ha]; · iexact Ha
  isplitl [Hs]; · iexact Hs
  iexact Hp

theorem leave (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) argBuf (V₂ m c)
      ∗ Pipeline.ownSems0 osem c ∗ semVal (barCell c) 0) := by
  rw [show (pdats m 0 c).Φ (Fin.last _) = Φ₁ m c from Φ_last m c, show Pipeline.scopedRest (Pipeline.pin (pcfgs (F := F)) adm 0).spec c = (scratch c : sProp 𝕄) from scratch_eq c,
    arg_list, V₂_rest m c main_arg0 (by decide)]
  unfold Φ₁ argPt Xm Pipeline.ownSems0
  iintro ⟨⟨Hb, Hk⟩, Ha, Hs, Hp⟩
  isplitl [Hs]; · iexact Hs
  isplitl [Hp]; · iexact Hp
  isplitl [Ha]; · iexact Ha
  isplitl [Hk]; · iexact Hk
  iexact Hb

theorem lv_above {g : GSem nD τ sig} (h : (∃ c, g = barCell c) ∨ (∃ c i, g = xrC c i) ∨ ∃ c i, g = yrC c i) (u : Unit) : u ∈ L g ∧ 0 < lv g u := by
  rcases h with ⟨c, rfl⟩ | ⟨c, i, rfl⟩ | ⟨c, i, rfl⟩
  · exact ⟨by rw [L_tc]; exact Finset.mem_singleton_self _, Nat.one_pos⟩
  · exact ⟨by rw [L_tc]; exact Finset.mem_singleton_self _, by rw [lv_cell]; exact Nat.succ_pos _⟩
  · exact ⟨by rw [L_tc]; exact Finset.mem_singleton_self _, by rw [lv_cell]; exact Nat.succ_pos _⟩

theorem O₀_pos {c : Dev nD} {g : GSem nD τ sig} {u : Unit} (h : 0 < O₀ c g u) :
    (∃ c, g = barCell c) ∨ (∃ c i, g = xrC c i) ∨ ∃ c i, g = yrC c i := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos h with ⟨i, -, e⟩ | ⟨i, -, e⟩
      · exact .inr (.inl ⟨_, i, e⟩)
      · exact .inr (.inr ⟨_, i, e⟩)
    · exact .inl ⟨_, tally_pos h⟩
  · exact .inl ⟨_, tally_pos h⟩

theorem owed_above (c : Dev nD) (t : Fin (cfg0.N + 1)) (g : GSem nD τ sig) (u : Unit) (h : 0 < (dat m c).owed t g u) : u ∈ L g ∧ 0 < lv g u := by
  rw [owed_at] at h
  split at h
  · exact lv_above (O₀_pos h) u
  · exact absurd h (Nat.lt_irrefl 0)

theorem staging_level : ∀ (w : Fin 2) (s : Fin ((spec0 w).nbuf)), lvk (nameOf ((spec0 w).sem s)) ≤ 0 := by decide

theorem own_facts : Pipeline.OwnSemFacts spec0 osem := by decide

set_option backward.isDefEq.respectTransparency.types false in
/-- The kernel's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    argBuf argBufs (by decide) launch0.toP rfl (fun c => (body_ok m c).loose)
    (fun _ => 0) O₀ (fun c => (owed_first m c).trans (zero_add _).symm) (owed_last m) (fun _ => rfl) (fun c w => by fin_cases w <;> rfl)
    (V₁ m) (V₂ m) (fun c b hb => V₂_rest m c b (by rintro rfl; revert hb; decide))
    (dealt m) (fun c => semVal (barCell c) 0) (started m) (fun c => semVal (barCell c) 0) (start_kernel m) (enter m) (leave m)
    (fun c => by iintro H; imodintro; iexact H)
    (fun _ => 0)
    ⟨fun c w s => by rw [L_tc]; exact Finset.mem_singleton_self _, fun c w s => staging_level w s, fun c t g i h => owed_above m c t g i h⟩
    (fun _ => iprop(emp))
    (fun c w => by fin_cases w <;> rfl)
    (fun c w => by
      fin_cases w
      · exact ((dat m c).arrAt_in 0 rfl _).trans (V₂_rest m c main_v1 (by decide)).symm
      · exact (arr_out m c).trans (V₂_out m c).symm)

/-- The program is its two segments. -/
def segs : List (Pipeline.Seg (pcfgs (F := F)) adm (pdats m) () defs₀ 𝒱₀ L lv) := [.host (seg0 m), .region (reg0 m)]
theorem main_eq (c : Dev nD) : main (F := F) c = Pipeline.Seg.run (segs m) := main_segs adm (pdats m) () 𝒱₀ L lv (seg0 m) (reg0 m) rfl c

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) argBufs (V₁ m c) ∗ emp) ∗ dealt m c ∗ ∃ Wd, owes (c : Thread nD τ) (0 + O₀ c) Wd)
  rw [bufs_list, arrs_list, args_list, zero_add]
  unfold R
  iintro ⟨⟨H0, H1, H2, H3⟩, HK, Hp, HO⟩
  isplitl [H2 H3]; · isplitl [H2] <;> iassumption
  isplitl [Hp]; · iexact Hp
  isplitl [H0 H1]
  · isplitl [H0 H1]; · isplitl [H0] <;> iassumption
    iempintro
  isplitl [HK]; · iexact HK
  iexact HO

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) argBufs (V₂ m c) ∗ emp) ∗ semVal (barCell c) 0 ∗ ∃ Wd, owes (c : Thread nD τ) (0 : CellTallies nD τ sig Unit) Wd) ⊢ _
  rw [bufs_list, arrs_list, args_list]
  iintro ⟨⟨H2, H3⟩, -, ⟨⟨H0, H1⟩, -⟩, Hb, HO⟩
  isplitr [HO]
  · isplitr [Hb]
    · isplitl [H0]; · iexact H0
      isplitl [H1]; · iexact H1
      isplitl [H2] <;> iassumption
    iexact Hb
  iexact HO

/-! ## The launch -/

/-- The ghost state at the launch: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's ghost state at the launch, all of it with device 0. -/
def atFirst (X : sProp 𝕄) (c : Dev nD) : sProp 𝕄 := if c = 0 then X else iprop(emp)
theorem bigSep_atFirst (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp
def launched : sProp 𝕄 := BI.own (ER (launchOf barCells ownCells allToks))

/-- What every device may consult: the invariants, and that round 0 of every barrier cell is reached. -/
def known (κ : GSem nD τ sig → ℕ) : sProp 𝕄 := iprop(recs (Xm m) (Gm m) κ ∗ bigSep Finset.univ fun c : Dev nD => reached ER (barCell c) 0)
instance known_persistent (κ : GSem nD τ sig → ℕ) : BI.Persistent (known m κ) := by unfold known; infer_instance

/-- What goes to device `c` alone, of the protocol and beside it. -/
def share (c : Dev nD) : sProp 𝕄 :=
  iprop(atPos ER (barCell c) 0 ∅ 0 ∗ (bigSep Finset.univ fun k : Own => openTok ER (cell c k)) ∗ paidToks c)
def beside (c : Dev nD) : sProp 𝕄 :=
  iprop(StableHlo.held (c : Thread nD τ) bufs (V₀ m c) ∗ (cred (tallyAt (barCell c) () 2)
      ∗ (bigSep Finset.univ fun i => cred (tallyAt (xrC c i) () N)) ∗ bigSep Finset.univ fun i => cred (tallyAt (yrC c i) () N))
    ∗ (∃ W, owes (c : Thread nD τ) (O₀ c) W) ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

theorem reached_bar (c : Dev nD) : (bigSep Finset.univ fun d : Dev nD => (reached ER (barCell d) 0 : sProp 𝕄)) ⊢ reached ER (barCell c) 0 :=
  bigSep_elim (Finset.mem_univ c)

theorem deal (κ : GSem nD τ sig → ℕ) (c : Dev nD) : iprop(known m κ ∗ (share c ∗ beside m c)) ⊢ T₀ m c := by
  unfold known share beside T₀ R dealt paidToks barHeld chunkToks
  simp only [bigSep_sep']
  iintro ⟨⟨#HR, #Hr⟩, ⟨Hat, Ho, ⟨Hx, Hy⟩, Hl, Hxs, Hxr, Hys, Hyr⟩, Hh, ⟨Hc2, Hcx, Hcy⟩, HO, Hp⟩
  isplitl [Hh]; · iexact Hh
  isplitr [HO Hp]
  · iexists κ
    isplitr; · iexact HR
    isplitl [Hat Hc2 Hx Hy]
    · isplitl [Hat]; · iexact Hat
      isplitl [Hc2]; · iexact Hc2
      isplitl [Hx]
      · isplitl [Hx]; · iexact Hx
        iapply (reached_bar (F := F) (xn c)); iexact Hr
      isplitl [Hy]; · iexact Hy
      iapply (reached_bar (F := F) (yn c)); iexact Hr
    isplitl [Ho]; · iexact Ho
    isplitl [Hl]; · iexact Hl
    isplitl [Hxs]; · iexact Hxs
    isplitl [Hxr]; · iexact Hxr
    isplitl [Hys]; · iexact Hys
    isplitl [Hyr]; · iexact Hyr
    isplitl [Hcx] <;> iassumption
  isplitl [Hp]; · iexact Hp
  iexact HO

theorem core_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ atFirst launched c)
    ⊢ (iprop(beside m c ∗ semVal (barCell c) 0 ∗ atFirst launched c) : sProp 𝕄) := by
  rw [show unscopedBufs c (fun b => m ((c : Thread nD τ).loc b)) = (StableHlo.held (c : Thread nD τ) bufs (V₀ m c) : sProp 𝕄) from bufs_held c (V₀ m c), sems_list]
  unfold beside
  iintro ⟨Hh, Hus, HO, Hcr, Hp, HG⟩
  isplitr [Hus HG]
  · isplitl [Hh]; · iexact Hh
    isplitl [Hcr]; · iapply (creds (F := F) c); iexact Hcr
    isplitl [HO]; · iexists ∅; iexact HO
    iexists (ρ c); iexact Hp
  isplitl [Hus] <;> iassumption

/-- Every cell's invariant, by device. -/
theorem invs_split (κ : GSem nD τ sig → ℕ) : (bigSep (barCells ∪ ownCells) fun g => (cellInv ER (Rd (Xm m) (Gm m)) (κ g) g : sProp 𝕄))
    = iprop((bigSep Finset.univ fun c : Dev nD => cellInv ER (Rd (Xm m) (Gm m)) (κ (barCell c)) (barCell c))
      ∗ bigSep Finset.univ fun p : Dev nD × Own => cellInv ER (Rd (Xm m) (Gm m)) (κ (cell p.1 p.2)) (cell p.1 p.2)) := by
  rw [bigSep_union cells_disjoint, bigSep_map, bigSep_map]
  rfl

theorem over_bars (Φ : GSem nD τ sig → sProp 𝕄) : bigSep barCells Φ = bigSep Finset.univ fun c : Dev nD => Φ (barCell c) :=
  bigSep_map (s := Finset.univ) barEmb (Φ := Φ)
theorem over_owns (Φ : GSem nD τ sig → sProp 𝕄) : bigSep ownCells Φ = bigSep Finset.univ fun c : Dev nD => bigSep Finset.univ fun k : Own => Φ (cell c k) := by
  rw [bigSep_map, bigSep_univ_prod]; rfl

/-- The launch: the protocol's cells are made and everything is dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atFirst launched c)) ∗ levAts L lv)
      ⊢ (|={Set.univ}=> bigSep Finset.univ (T₀ m) : sProp 𝕄) := by
  iintro ⟨H, #Hlev⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atFirst launched c))
      ⊢ (iprop((bigSep Finset.univ fun c : Dev nD => beside m c) ∗ (bigSep Finset.univ fun c : Dev nD => semVal (barCell c) 0)
        ∗ launched) : sProp 𝕄) from
    .trans (bigSep_mono fun c _ => core_start m ρ c) (Entails.of_eq (by rw [bigSep_sep', bigSep_sep', bigSep_atFirst]))) $$ H
  icases H with ⟨HB, Hv, Hu⟩
  imod (Rounds.fund_launch ER (Rd (Xm m) (Gm m)) cells_disjoint (fun g _ h => h) allToks) $$ [Hv Hu] with ⟨%κ, -, #Hinv, #Hr, Hat, Hopen, Htok⟩
  · isplitl [Hv]
    · rw [over_bars]; iexact Hv
    · unfold launched; iexact Hu
  imodintro
  iapply (bigSep_with_persistent (R := known m κ) (Φ := fun c => iprop(share c ∗ beside m c)) fun c _ => deal m κ c)
  isplitr
  · unfold known recs
    isplitr
    · ihave Hi := (Entails.of_eq (invs_split m κ)) $$ Hinv
      icases Hi with ⟨#Hi1, #Hi2⟩
      isplitr; · iexact Hi1
      isplitr; · iexact Hi2
      iexact Hlev
    iapply (Entails.of_eq (over_bars (F := F) fun g => reached ER g 0)); iexact Hr
  unfold share
  simp only [bigSep_sep']
  isplitr [HB]
  · isplitl [Hat]; · iapply (Entails.of_eq (over_bars (F := F) fun g => atPos ER g 0 ∅ 0)) $$ Hat
    isplitl [Hopen]; · iapply (Entails.of_eq (over_owns (F := F) fun g => openTok ER g)) $$ Hopen
    iapply (toks_around (F := F))
    iapply (Entails.of_eq (toks_eq (F := F))) $$ Htok
  · iexact HB

/-! ## The run -/

theorem unscoped_bar : ∀ s : SemLoc sig, s.isScoped .tc = false → s = .reg bar := by decide

set_option backward.isDefEq.respectTransparency.types false in
/-- THE RUN. From any memory with the semaphores at zero every execution ends, nothing faulting. Each device's arguments
    are unchanged, its result array holds what its own chunks and its neighbour's give, and every semaphore is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outFull c (Xm m) (Gm m)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := atFirst launched) (u₀ := u₀)
    (hu₀ := by
      unfold u₀
      iintro Hu
      ihave H := (ownU_pair _ _) $$ Hu
      icases H with ⟨HP, HX⟩
      imodintro
      isplitl [HP]; · iexact HP
      rw [bigSep_atFirst]; unfold launched; iexact HX)
    (T₀ := T₀ m) (Tₙ := Tₙ m)
    (hch := ⟨fun c => .rfl, reg0_pre m, reg0_post m⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barCell c) = 0)
    (hfin := fun c s' => by
      dsimp only [Tₙ]; rw [bufs_list]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_rest m c main_arg0 (by decide), show V₁ m c main_arg0 = _ from V_main_arg0 m c] at h0
        rw [V₂_rest m c main_arg1 (by decide), show V₁ m c main_arg1 = _ from V_main_arg1 m c] at h1
        rw [V₂_out] at h2
        exact ⟨h0, h1, h2⟩,
      sem_eq_zero hs fun c sm hsm => by
        obtain rfl := unscoped_bar sm hsm
        exact (h c).2⟩)

end Cert.KernelIdeal.Steps

end
-- ==== Proof.Reference.lean ====
/-
  The reference's result as real arithmetic: row by row, the sum of the two partial sums, divided by its root mean square and scaled
  by the weights.
-/
module

public import proofs.«01_k».proof.Proof.Gen.ReferenceIdeal.Run
public import Idealize.ShloMosaic.Lib.Pointwise

@[expose] public section

noncomputable section

namespace Cert.ReferenceIdeal.Steps

open Cert.ReferenceIdeal Cert.ReferenceIdeal.Gen
open Idealize.ShloMosaic
open Idealize.ShloMosaic.TcCoe

set_option maxRecDepth 16384

/-! ## A row -/

/-- Entry `k` of the row `s` divided by its root mean square and scaled by the weights `g`. -/
def rms (s g : Fin 2048 → EReal) (k : Fin 2048) : EReal :=
  Ideal.div (s k) (Ideal.sqrt (Ideal.div (∑ x, s x * s x) (Ideal.ofBits FTy.f32 0x45000000#32) + Ideal.ofBits FTy.f32 0x358637BD#32)) * g k

/-- The two partial sums of entry `(r, k)`, added. -/
def total (p : S2x4096x2048.Idx → EReal) (r : Fin 4096) (k : Fin 2048) : EReal := p (ix3 0 r k) + p (ix3 1 r k)

/-- Row `r` of the normalised sum of the two partial sums. -/
def whole (p : S2x4096x2048.Idx → EReal) (g : S2048.Idx → EReal) (r : Fin 4096) (k : Fin 2048) : EReal :=
  rms (total p r) (fun x => g (ix1 x)) k

/-! ## The reference's result -/

/-- The reference's sum of the two partial sums. -/
def refTotal (p : FVec Ideal S2x4096x2048 .f32) : FVec Ideal S4096x2048 .f32 :=
  Host.reduceAdd p (constant S_ .f32 0x00000000#32) reducesTo_S2x4096x2048_S4096x2048_d0 h_S_

/-- The reference's result, operation by operation. -/
def reference (p : FVec Ideal S2x4096x2048 .f32) (g : FVec Ideal S2048 .f32) : FVec Ideal S4096x2048 .f32 :=
  mulf (Host.divf (refTotal p) (broadcastInDim S4096x2048 ![0, 1] bcast_S4096x1_S4096x2048_0_1
      (Host.sqrt (addf (Host.divf (broadcastInDim S4096x1 ![0] bcast_S4096_S4096x1_0
          (Host.reduceAdd (mulf (refTotal p) (refTotal p)) (constant S_ .f32 0x00000000#32) reducesTo_S4096x2048_S4096_d1 h_S_))
        (broadcastInDim S4096x1 ![] bcast_S_S4096x1 (constant S_ .f32 0x45000000#32)))
      (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 g))

/-- The reference's result at `(r, k)`: the same function of the whole arrays. -/
theorem reference_apply (p : S2x4096x2048.Idx → EReal) (g : S2048.Idx → EReal) (r : Fin 4096) (k : Fin 2048) :
    reference p g (ix2 r k) = whole p g r k := by
  have e (r : Fin 4096) (k : Fin 2048) : refTotal p (ix2 r k) = total p r k := by
    pointwise [refTotal, total]
    exact Fin.sum_univ_two (fun x : Fin 2 => p (ix3 x r k))
  pointwise [reference, whole, rms]
  simp only [e]

end Cert.ReferenceIdeal.Steps

end
-- ==== Proof.Value.lean ====
/-
  The result as real arithmetic. At the extended reals the changes of format are the identity, so a device's result is, row by row,
  the normalised sum of the two partial sums; the reference's result is the same function of the whole arrays.
-/
module

public import proofs.«01_k».proof.Proof.Run
public import proofs.«01_k».proof.Proof.Reference

@[expose] public section

noncomputable section

namespace Cert.KernelIdeal.Steps

open Cert.KernelIdeal Cert.KernelIdeal.Gen
open Cert.ReferenceIdeal.Steps (rms total whole)
open Idealize.ShloMosaic
open Idealize.ShloMosaic.TcCoe

set_option maxRecDepth 16384

/-! ## A chunk -/

/-- A normalised chunk, row by row. -/
theorem norm_apply (v : Vec Ideal S128x2048 .f32) (w : Vec Ideal S128x2048 .bf16) (g : Vec Ideal S1x2048 .f32) (r : Fin 128) (k : Fin 2048) :
    norm v w g (ix2 r k) = rms (fun x => v (ix2 r x) + w (ix2 r x)) (fun x => g (ix2 0 x)) k := by
  pointwise [norm, k0_pay12, rms]

/-- Rounding and widening change nothing. -/
theorem down_eq (v : Vec Ideal S128x2048 .f32) : down v = v := by
  funext j
  obtain ⟨a, b, rfl⟩ : ∃ (a : Fin 128) (b : Fin 2048), j = ix2 a b := ⟨j 0, j 1, eq_ix2 j⟩
  pointwise [down, k0_pay1]

theorem up_eq (v : Vec Ideal S128x2048 .bf16) : up v = v := by
  funext j
  obtain ⟨a, b, rfl⟩ : ∃ (a : Fin 128) (b : Fin 2048), j = ix2 a b := ⟨j 0, j 1, eq_ix2 j⟩
  pointwise [up, k0_pay28]

/-! ## Where the rows come from -/

/-- Row `r` of chunk `i` of a quarter. -/
theorem chunk_emb (i : Fin 8) (r : Fin 128) (k : Fin 2048) :
    (chunk i).emb (ix2 r k) = ix2 (⟨128 * i.val + r.val, by have := i.isLt; have := r.isLt; omega⟩ : Fin 1024) k := by
  funext a
  apply Fin.ext
  fin_cases a
  · show 128 * i.val + 1 * r.val = 128 * i.val + r.val; omega
  · show 0 + 1 * k.val = k.val; omega

variable {F : FTy → Type} [FloatOps F]

/-- The row of the partial sums that is row `r` of the quarter device `c` keeps. -/
def keepRow (c : Dev nD) (r : Fin 1024) : Fin 4096 :=
  ⟨2048 * (c.val / 2) + 1024 * (c.val % 2) + r.val, by have : c.val < 4 := c.isLt; have := r.isLt; omega⟩

/-- A quarter, read through its view, at row `r`: row `n + r` of the block. -/
theorem quarter_apply (X : (main_arg0 : Ref sig .tc).ty.Contents (Elt F)) (off : Fin 3 → ℕ) (n : ℕ) (h : off = ![0, n, 0])
    (inb : ∀ a, off a + S1x1024x2048.size a ≤ S1x4096x2048.size a) (r : Fin 1024) (k : Fin 2048) (t : Fin 4096) (ht : n + r.val = t.val) :
    ((inM.slice (Rect.unit (s := S1x4096x2048) off S1x1024x2048.size inb) (fun _ => rfl)).squeeze S1024x2048
      squeezes_S1x1024x2048_S1024x2048).view.read (Elt F) X (ix2 r k) = X (ix3 0 t k) := by
  subst h
  have hc : S1x1024x2048.ShapeCasts S1024x2048 := by decide
  show shapeCast S1024x2048 (fun j : S1x1024x2048.Idx =>
    X ((Rect.unit (s := S1x4096x2048) ![0, n, 0] S1x1024x2048.size inb).emb j)) hc (ix2 r k) = _
  have e : shapeCast S1024x2048 (fun j : S1x1024x2048.Idx =>
    X ((Rect.unit (s := S1x4096x2048) ![0, n, 0] S1x1024x2048.size inb).emb j)) hc (ix2 r k)
      = X ((Rect.unit (s := S1x4096x2048) ![0, n, 0] S1x1024x2048.size inb).emb (ix3 0 r k)) := by pointwise
  rw [e]
  refine congrArg X (funext fun a => Fin.ext ?_)
  fin_cases a
  · rfl
  · show n + 1 * r.val = t.val; omega
  · show 0 + 1 * k.val = k.val; omega

theorem xn_div (c : Dev nD) : (xn c).val / 2 = 1 - c.val / 2 := by revert c; decide
theorem xn_mod (c : Dev nD) : (xn c).val % 2 = c.val % 2 := by revert c; decide
theorem yn_div (c : Dev nD) : (yn c).val / 2 = c.val / 2 := by revert c; decide
theorem yn_mod (c : Dev nD) : (yn c).val % 2 = 1 - c.val % 2 := by revert c; decide

theorem keepQ_apply (X : (c : Dev nD) → (main_arg0 : Ref sig .tc).ty.Contents (Elt F)) (c : Dev nD) (r : Fin 1024) (k : Fin 2048) :
    keepQ X c (ix2 r k) = X c (ix3 0 (keepRow c r) k) :=
  quarter_apply (X c) _ _ (k0_off2_eq c) _ r k _ rfl

/-- What a device sends along x are the rows its neighbour keeps. -/
theorem sendQ_apply (X : (c : Dev nD) → (main_arg0 : Ref sig .tc).ty.Contents (Elt F)) (c : Dev nD) (r : Fin 1024) (k : Fin 2048) :
    sendQ X c (ix2 r k) = X c (ix3 0 (keepRow (xn c) r) k) :=
  quarter_apply (X c) _ _ (k0_off1_eq c) _ r k _ (by
    show _ = 2048 * ((xn c).val / 2) + 1024 * ((xn c).val % 2) + r.val
    rw [xn_div, xn_mod]
    have : c.val < 4 := c.isLt
    omega)

/-! ## A device's result -/

/-- Entry `(r, k)` of device `c`'s partial sum. -/
def entry (X : (c : Dev nD) → (main_arg0 : Ref sig .tc).ty.Contents (Elt Ideal)) (c : Dev nD) (r : Fin 4096) (k : Fin 2048) : EReal :=
  X c (ix3 0 r k)

section Result

variable (X : (c : Dev nD) → (main_arg0 : Ref sig .tc).ty.Contents (Elt Ideal)) (G : Dev nD → S1x2048.Idx → Elt Ideal .f32)
  (p : Cert.ReferenceIdeal.S2x4096x2048.Idx → EReal) (g : S2048.Idx → EReal)
  (hX : ∀ (c : Dev nD) (r : Fin 4096) (k : Fin 2048), X c (ix3 0 r k) = p (ix3 (⟨c.val / 2, by have : c.val < 4 := c.isLt; omega⟩ : Fin 2) r k))
  (hG : ∀ (c : Dev nD) (k : Fin 2048), G c (ix2 0 k) = g (ix1 k))

include hX in
/-- What a device keeps and what its neighbour along x keeps of the same rows are the two partial sums, in either order. -/
theorem pair_total (c : Dev nD) (r : Fin 4096) (k : Fin 2048) :
    entry X c r k + entry X (xn c) r k = total p r k := by
  have h : c.val / 2 = 0 ∨ c.val / 2 = 1 := by have : c.val < 4 := c.isLt; omega
  unfold entry
  rw [hX, hX]
  simp only [xn_div]
  unfold total
  rcases h with h | h
  · simp only [h]; rfl
  · simp only [h]; exact add_comm _ _

include hX hG in
/-- Chunk `i` of a device's own half: rows of the normalised sum. -/
theorem normed_apply (c : Dev nD) (i : Fin 8) (r : Fin 128) (k : Fin 2048) (t : Fin 4096)
    (ht : 2048 * (c.val / 2) + 1024 * (c.val % 2) + 128 * i.val + r.val = t.val) :
    normed X G c i (ix2 r k) = whole p g t k := by
  have e (x : Fin 2048) : cut (keepQ X c) i (ix2 r x) + outX X (xn c) i (ix2 r x) = total p t x := by
    have e1 : cut (keepQ X c) i (ix2 r x) = entry X c t x := by
      show keepQ X c ((chunk i).emb (ix2 r x)) = _
      rw [chunk_emb, keepQ_apply]
      unfold entry
      congr 2
      exact Fin.ext (by show 2048 * (c.val / 2) + 1024 * (c.val % 2) + (128 * i.val + r.val) = t.val; omega)
    have e2 : outX X (xn c) i (ix2 r x) = entry X (xn c) t x := by
      show down (cut (sendQ X (xn c)) i) (ix2 r x) = _
      rw [down_eq]
      show sendQ X (xn c) ((chunk i).emb (ix2 r x)) = _
      rw [chunk_emb, sendQ_apply, xn_xn]
      unfold entry
      congr 2
      exact Fin.ext (by show 2048 * (c.val / 2) + 1024 * (c.val % 2) + (128 * i.val + r.val) = t.val; omega)
    rw [e1, e2]
    exact pair_total X p hX c t x
  show norm (cut (keepQ X c) i) (outX X (xn c) i) (G c) (ix2 r k) = _
  rw [norm_apply]
  unfold whole
  rw [show (fun x => cut (keepQ X c) i (ix2 r x) + outX X (xn c) i (ix2 r x)) = total p t from funext e,
    show (fun x => G c (ix2 0 x)) = fun x => g (ix1 x) from funext (hG c)]

include hX hG in
/-- A device's result: its block of rows of the normalised sum. -/
theorem outFull_apply (c : Dev nD) (r k : Fin 2048) (t : Fin 4096) (ht : 2048 * (c.val / 2) + r.val = t.val) :
    outFull c X G (ix2 r k) = whole p g t k := by
  have hm := Finset.mem_univ (ix2 r k : S2048x2048.Idx)
  rw [← rows_cover c, Finset.mem_biUnion] at hm
  obtain ⟨⟨b, i⟩, -, hm⟩ := hm
  rw [← Rect.map_emb_univ, Finset.mem_map] at hm
  obtain ⟨j, -, hj⟩ := hm
  have hc : c.val < 4 := c.isLt
  cases b
  · obtain ⟨a, b, rfl⟩ : ∃ (a : Fin 128) (b : Fin 2048), j = ix2 a b := ⟨j 0, j 1, eq_ix2 j⟩
    have h0 : k0_off3 c (BitVec.ofNat 32 (128 * i.val)) 0 + 1 * a.val = r.val := congrArg (fun z : S2048x2048.Idx => (z 0).val) hj
    have h1 : k0_off3 c (BitVec.ofNat 32 (128 * i.val)) 1 + 1 * b.val = k.val := congrArg (fun z : S2048x2048.Idx => (z 1).val) hj
    rw [k0_off3_eq] at h0 h1
    have h0 : 1024 * (c.val % 2) + 128 * i.val + 1 * a.val = r.val := h0
    have h1 : 0 + 1 * b.val = k.val := h1
    obtain rfl : b = k := Fin.ext (by omega)
    have hj : (ownRows c i).emb (ix2 a b) = ix2 r b := hj
    rw [← hj, outFull_own]
    exact normed_apply X G p g hX hG c i a b t (by omega)
  · obtain ⟨a, b, rfl⟩ : ∃ (a : Fin 128) (b : Fin 2048), j = ix2 a b := ⟨j 0, j 1, eq_ix2 j⟩
    have h0 : k0_off4 c (BitVec.ofNat 32 (128 * i.val)) 0 + 1 * a.val = r.val := congrArg (fun z : S2048x2048.Idx => (z 0).val) hj
    have h1 : k0_off4 c (BitVec.ofNat 32 (128 * i.val)) 1 + 1 * b.val = k.val := congrArg (fun z : S2048x2048.Idx => (z 1).val) hj
    rw [k0_off4_eq] at h0 h1
    have h0 : 128 * i.val + 1024 - 1024 * (c.val % 2) + 1 * a.val = r.val := h0
    have h1 : 0 + 1 * b.val = k.val := h1
    obtain rfl : b = k := Fin.ext (by omega)
    have hj : (otherRows c i).emb (ix2 a b) = ix2 r b := hj
    rw [← hj, outFull_other, up_eq]
    show down (normed X G (yn c) i) (ix2 a b) = _
    rw [down_eq]
    exact normed_apply X G p g hX hG (yn c) i a b t (by rw [yn_div, yn_mod]; omega)

end Result

/-! ## The arguments -/

theorem Xm_apply (m : (ℓ : Loc nD τ sig) → Buf (Elt F) ℓ) (c : Dev nD) : Xm m c = m ((c : Thread nD τ).loc main_arg0) :=
  V_main_arg0 m c

/-- The staged weights are the weights argument, as one row. -/
theorem Gm_apply (m : (ℓ : Loc nD τ sig) → Buf (Elt F) ℓ) (c : Dev nD) (k : Fin 2048) :
    Gm m c (ix2 0 k) = m ((c : Thread nD τ).loc main_arg1) (ix1 k) := by
  have hV : V m c main_v1 = shapeCast S1x2048 (m ((c : Thread nD τ).loc main_arg1)) shapeCasts_S2048_S1x2048 := by
    show StableHlo.after hostOps0 _ _ = _
    unfold hostOps0
    simp only [StableHlo.after]
    exact StableHlo.reshape_result _ _ _ _ _ _ _
  show V m c main_v1 (fun a => _) = _
  rw [hV]
  have he : (fun a => ((cfg0.win 0).blk t0_0).view.emb (ix2 (0 : Fin 1) k) a : S1x2048.Idx) = ix2 0 k := by
    funext a
    apply Fin.ext
    fin_cases a
    · rfl
    · show 0 + 1 * k.val = k.val; omega
  refine (congrArg _ he).trans ?_
  pointwise

/-! ## A device's block -/

/-- When every device holds its row of the mesh's partial sum, and the weights, its result is its block of rows of the reference's. -/
theorem result_block (m : (ℓ : Loc nD τ sig) → Buf (Elt Ideal) ℓ) (p : Cert.ReferenceIdeal.S2x4096x2048.Idx → EReal) (g : S2048.Idx → EReal)
    (h0 : ∀ c : Dev nD, m ((c : Thread nD τ).loc main_arg0)
      = Layout.blockN ⟨3, ![1, 4096, 2048]⟩ ⟨3, ![2, 4096, 2048]⟩ (Layout.meshBlock [2, 2] ![[0], [], []] c) p)
    (h1 : ∀ c : Dev nD, m ((c : Thread nD τ).loc main_arg1) = g) (c : Dev nD) :
    outFull c (Xm m) (Gm m)
      = Layout.blockN ⟨2, ![2048, 2048]⟩ ⟨2, ![4096, 2048]⟩ (Layout.meshBlock [2, 2] ![[0], []] c) (Cert.ReferenceIdeal.Steps.reference p g) := by
  have hc : c.val < 4 := c.isLt
  have hX : ∀ (c : Dev nD) (r : Fin 4096) (k : Fin 2048),
      Xm m c (ix3 0 r k) = p (ix3 (⟨c.val / 2, by have : c.val < 4 := c.isLt; omega⟩ : Fin 2) r k) := by
    intro c r k
    have hc : c.val < 4 := c.isLt
    refine (congrFun ((Xm_apply m c).trans (h0 c)) _).trans (congrArg p (funext fun a => Fin.ext ?_))
    fin_cases a
    · show ((c.val / 2) % 2 * 1 + 0) * 1 + 0 = c.val / 2; omega
    · show 0 * 4096 + r.val = r.val; omega
    · show 0 * 2048 + k.val = k.val; omega
  have hG : ∀ (c : Dev nD) (k : Fin 2048), Gm m c (ix2 0 k) = g (ix1 k) := fun c k =>
    (Gm_apply m c k).trans (congrFun (h1 c) _)
  funext j
  obtain ⟨r, k, rfl⟩ : ∃ (r k : Fin 2048), j = ix2 r k := ⟨j 0, j 1, eq_ix2 j⟩
  have ht : 2048 * (c.val / 2) + r.val < 4096 := by omega
  rw [outFull_apply (Xm m) (Gm m) p g hX hG c r k ⟨_, ht⟩ rfl, ← Cert.ReferenceIdeal.Steps.reference_apply]
  refine congrArg (Cert.ReferenceIdeal.Steps.reference p g) (funext fun a => Fin.ext ?_)
  fin_cases a
  · show 2048 * (c.val / 2) + r.val = ((c.val / 2) % 2 * 1 + 0) * 2048 + r.val; omega
  · show k.val = 0 * 2048 + k.val; omega

end Cert.KernelIdeal.Steps
end
-- ==== Proof.lean ====
/-
  The claims: the run of the kernel, proved once for any float values, read at bit patterns and at the extended reals, and the value it
  leaves there, which is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Same
public import proofs.«01_k».proof.Proof.Value

@[expose] public section

noncomputable section

namespace Cert.Proof

open Idealize.ShloMosaic Idealize.SL.Sem Cert.Kernel

/-- The kernel on bit patterns terminates without a fault, its arguments unchanged and every semaphore back at zero. -/
theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => ⟨(h.1 c).1, (h.1 c).2.1⟩, h.2⟩)
      (Cert.KernelIdeal.Steps.run_main (F := Bits) m ρ)
  rw [defs_same]
  exact h

/-- So does the kernel read at the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Steps.run_main (F := Ideal) m ρ)

/-- So does the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals every device ends with its block of rows of the reference's result. -/
theorem algebraic : Cert.algebraic_KernelIdeal_ReferenceIdeal := by
  intro m ρ m' ρ' _ hm
  refine ⟨Cert.ReferenceIdeal.Steps.reference (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).1, (h.1 c).2.1⟩) (Cert.KernelIdeal.Steps.run_main (F := Ideal) m ρ)
    refine (h.1 c).2.2.trans ?_
    exact Cert.KernelIdeal.Steps.result_block m _ _ (fun c => (hm c).1) (fun c => (hm c).2) c
  · exact (θ_run Cert.ReferenceIdeal.defs _ _).mono (fun r h => h 0) (Cert.ReferenceIdeal.Value.run (F := Ideal) m' ρ')

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
